-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S15x64x1024 : Shape := ⟨3, ![15, 64, 1024]⟩
abbrev S15 : Shape := ⟨1, ![15]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S15x64x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : BitVec 32 := Scalar.addi v2 c1_i32_66
  let c16_i32_67 : BitVec 32 := 16#32
  let v74 : BitVec 32 := Scalar.remsi v73 c16_i32_67
  let c64_i32 : BitVec 32 := 64#32
  let v75 : BitVec 32 := Scalar.muli v74 c64_i32
  let c0_i32_75 : BitVec 32 := 0#32
  ![v75.toNat, 0]
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v73 : BitVec 32 := Scalar.addi v2 c1_i32_66
  let c16_i32_67 : BitVec 32 := 16#32
  let v74 : BitVec 32 := Scalar.remsi v73 c16_i32_67
  let c1_i32_71 : BitVec 32 := 1#32
  let v76 : BitVec 32 := Scalar.muli v74 c1_i32_71
  let v77 : BitVec 32 := Scalar.addi c0_i32_72 v76
  v77.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v85 : BitVec 32 := Scalar.addi v2 c2_i32_76
  let c16_i32_77 : BitVec 32 := 16#32
  let v86 : BitVec 32 := Scalar.remsi v85 c16_i32_77
  let c1_i32_82 : BitVec 32 := 1#32
  let v88 : BitVec 32 := Scalar.muli v86 c1_i32_82
  let v89 : BitVec 32 := Scalar.addi c0_i32_83 v88
  v89.toNat
def k0_dev18 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v97 : BitVec 32 := Scalar.addi v2 c3_i32_87
  let c16_i32_88 : BitVec 32 := 16#32
  let v98 : BitVec 32 := Scalar.remsi v97 c16_i32_88
  let c1_i32_93 : BitVec 32 := 1#32
  let v100 : BitVec 32 := Scalar.muli v98 c1_i32_93
  let v101 : BitVec 32 := Scalar.addi c0_i32_94 v100
  v101.toNat
def k0_dev19 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v109 : BitVec 32 := Scalar.addi v2 c4_i32_98
  let c16_i32_99 : BitVec 32 := 16#32
  let v110 : BitVec 32 := Scalar.remsi v109 c16_i32_99
  let c1_i32_104 : BitVec 32 := 1#32
  let v112 : BitVec 32 := Scalar.muli v110 c1_i32_104
  let v113 : BitVec 32 := Scalar.addi c0_i32_105 v112
  v113.toNat
def k0_dev20 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_109 : BitVec 32 := 5#32
  let v121 : BitVec 32 := Scalar.addi v2 c5_i32_109
  let c16_i32_110 : BitVec 32 := 16#32
  let v122 : BitVec 32 := Scalar.remsi v121 c16_i32_110
  let c1_i32_115 : BitVec 32 := 1#32
  let v124 : BitVec 32 := Scalar.muli v122 c1_i32_115
  let v125 : BitVec 32 := Scalar.addi c0_i32_116 v124
  v125.toNat
def k0_dev21 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_120 : BitVec 32 := 6#32
  let v133 : BitVec 32 := Scalar.addi v2 c6_i32_120
  let c16_i32_121 : BitVec 32 := 16#32
  let v134 : BitVec 32 := Scalar.remsi v133 c16_i32_121
  let c1_i32_126 : BitVec 32 := 1#32
  let v136 : BitVec 32 := Scalar.muli v134 c1_i32_126
  let v137 : BitVec 32 := Scalar.addi c0_i32_127 v136
  v137.toNat
def k0_dev22 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_131 : BitVec 32 := 7#32
  let v145 : BitVec 32 := Scalar.addi v2 c7_i32_131
  let c16_i32_132 : BitVec 32 := 16#32
  let v146 : BitVec 32 := Scalar.remsi v145 c16_i32_132
  let c1_i32_137 : BitVec 32 := 1#32
  let v148 : BitVec 32 := Scalar.muli v146 c1_i32_137
  let v149 : BitVec 32 := Scalar.addi c0_i32_138 v148
  v149.toNat
def k0_dev23 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_142 : BitVec 32 := 8#32
  let v157 : BitVec 32 := Scalar.addi v2 c8_i32_142
  let c16_i32_143 : BitVec 32 := 16#32
  let v158 : BitVec 32 := Scalar.remsi v157 c16_i32_143
  let c1_i32_148 : BitVec 32 := 1#32
  let v160 : BitVec 32 := Scalar.muli v158 c1_i32_148
  let v161 : BitVec 32 := Scalar.addi c0_i32_149 v160
  v161.toNat
def k0_dev24 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_153 : BitVec 32 := 9#32
  let v169 : BitVec 32 := Scalar.addi v2 c9_i32_153
  let c16_i32_154 : BitVec 32 := 16#32
  let v170 : BitVec 32 := Scalar.remsi v169 c16_i32_154
  let c1_i32_159 : BitVec 32 := 1#32
  let v172 : BitVec 32 := Scalar.muli v170 c1_i32_159
  let v173 : BitVec 32 := Scalar.addi c0_i32_160 v172
  v173.toNat
def k0_dev25 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_164 : BitVec 32 := 10#32
  let v181 : BitVec 32 := Scalar.addi v2 c10_i32_164
  let c16_i32_165 : BitVec 32 := 16#32
  let v182 : BitVec 32 := Scalar.remsi v181 c16_i32_165
  let c1_i32_170 : BitVec 32 := 1#32
  let v184 : BitVec 32 := Scalar.muli v182 c1_i32_170
  let v185 : BitVec 32 := Scalar.addi c0_i32_171 v184
  v185.toNat
def k0_dev26 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_175 : BitVec 32 := 11#32
  let v193 : BitVec 32 := Scalar.addi v2 c11_i32_175
  let c16_i32_176 : BitVec 32 := 16#32
  let v194 : BitVec 32 := Scalar.remsi v193 c16_i32_176
  let c1_i32_181 : BitVec 32 := 1#32
  let v196 : BitVec 32 := Scalar.muli v194 c1_i32_181
  let v197 : BitVec 32 := Scalar.addi c0_i32_182 v196
  v197.toNat
def k0_dev27 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_186 : BitVec 32 := 12#32
  let v205 : BitVec 32 := Scalar.addi v2 c12_i32_186
  let c16_i32_187 : BitVec 32 := 16#32
  let v206 : BitVec 32 := Scalar.remsi v205 c16_i32_187
  let c1_i32_192 : BitVec 32 := 1#32
  let v208 : BitVec 32 := Scalar.muli v206 c1_i32_192
  let v209 : BitVec 32 := Scalar.addi c0_i32_193 v208
  v209.toNat
def k0_dev28 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_197 : BitVec 32 := 13#32
  let v217 : BitVec 32 := Scalar.addi v2 c13_i32_197
  let c16_i32_198 : BitVec 32 := 16#32
  let v218 : BitVec 32 := Scalar.remsi v217 c16_i32_198
  let c1_i32_203 : BitVec 32 := 1#32
  let v220 : BitVec 32 := Scalar.muli v218 c1_i32_203
  let v221 : BitVec 32 := Scalar.addi c0_i32_204 v220
  v221.toNat
def k0_dev29 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_208 : BitVec 32 := 14#32
  let v229 : BitVec 32 := Scalar.addi v2 c14_i32_208
  let c16_i32_209 : BitVec 32 := 16#32
  let v230 : BitVec 32 := Scalar.remsi v229 c16_i32_209
  let c1_i32_214 : BitVec 32 := 1#32
  let v232 : BitVec 32 := Scalar.muli v230 c1_i32_214
  let v233 : BitVec 32 := Scalar.addi c0_i32_215 v232
  v233.toNat
def k0_dev30 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_219 : BitVec 32 := 15#32
  let v241 : BitVec 32 := Scalar.addi v2 c15_i32_219
  let c16_i32_220 : BitVec 32 := 16#32
  let v242 : BitVec 32 := Scalar.remsi v241 c16_i32_220
  let c1_i32_225 : BitVec 32 := 1#32
  let v244 : BitVec 32 := Scalar.muli v242 c1_i32_225
  let v245 : BitVec 32 := Scalar.addi c0_i32_226 v244
  v245.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_350 : BitVec 32 := 64#32
  let v358 : BitVec 32 := Scalar.muli v2 c64_i32_350
  let v359 : Index := Scalar.indexCast v358
  let c0_351 : Index := 0#32
  ![v359.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_363 : BitVec 32 := 64#32
  let v379 : BitVec 32 := Scalar.muli v2 c64_i32_363
  let c0_i32_368 : BitVec 32 := 0#32
  ![v379.toNat, 0]
def k0_dev31 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_360 : BitVec 32 := 1#32
  let v376 : BitVec 32 := Scalar.addi v2 c1_i32_360
  let c16_i32_361 : BitVec 32 := 16#32
  let v377 : BitVec 32 := Scalar.remsi v376 c16_i32_361
  let c1_i32_366 : BitVec 32 := 1#32
  let v380 : BitVec 32 := Scalar.muli v377 c1_i32_366
  let v381 : BitVec 32 := Scalar.addi c0_i32_367 v380
  v381.toNat
def k0_dev32 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_370 : BitVec 32 := 2#32
  let v388 : BitVec 32 := Scalar.addi v2 c2_i32_370
  let c16_i32_371 : BitVec 32 := 16#32
  let v389 : BitVec 32 := Scalar.remsi v388 c16_i32_371
  let c1_i32_376 : BitVec 32 := 1#32
  let v392 : BitVec 32 := Scalar.muli v389 c1_i32_376
  let v393 : BitVec 32 := Scalar.addi c0_i32_377 v392
  v393.toNat
def k0_dev33 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_380 : BitVec 32 := 3#32
  let v400 : BitVec 32 := Scalar.addi v2 c3_i32_380
  let c16_i32_381 : BitVec 32 := 16#32
  let v401 : BitVec 32 := Scalar.remsi v400 c16_i32_381
  let c1_i32_386 : BitVec 32 := 1#32
  let v404 : BitVec 32 := Scalar.muli v401 c1_i32_386
  let v405 : BitVec 32 := Scalar.addi c0_i32_387 v404
  v405.toNat
def k0_dev34 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_390 : BitVec 32 := 4#32
  let v412 : BitVec 32 := Scalar.addi v2 c4_i32_390
  let c16_i32_391 : BitVec 32 := 16#32
  let v413 : BitVec 32 := Scalar.remsi v412 c16_i32_391
  let c1_i32_396 : BitVec 32 := 1#32
  let v416 : BitVec 32 := Scalar.muli v413 c1_i32_396
  let v417 : BitVec 32 := Scalar.addi c0_i32_397 v416
  v417.toNat
def k0_dev35 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_400 : BitVec 32 := 5#32
  let v424 : BitVec 32 := Scalar.addi v2 c5_i32_400
  let c16_i32_401 : BitVec 32 := 16#32
  let v425 : BitVec 32 := Scalar.remsi v424 c16_i32_401
  let c1_i32_406 : BitVec 32 := 1#32
  let v428 : BitVec 32 := Scalar.muli v425 c1_i32_406
  let v429 : BitVec 32 := Scalar.addi c0_i32_407 v428
  v429.toNat
def k0_dev36 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_410 : BitVec 32 := 6#32
  let v436 : BitVec 32 := Scalar.addi v2 c6_i32_410
  let c16_i32_411 : BitVec 32 := 16#32
  let v437 : BitVec 32 := Scalar.remsi v436 c16_i32_411
  let c1_i32_416 : BitVec 32 := 1#32
  let v440 : BitVec 32 := Scalar.muli v437 c1_i32_416
  let v441 : BitVec 32 := Scalar.addi c0_i32_417 v440
  v441.toNat
def k0_dev37 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_420 : BitVec 32 := 7#32
  let v448 : BitVec 32 := Scalar.addi v2 c7_i32_420
  let c16_i32_421 : BitVec 32 := 16#32
  let v449 : BitVec 32 := Scalar.remsi v448 c16_i32_421
  let c1_i32_426 : BitVec 32 := 1#32
  let v452 : BitVec 32 := Scalar.muli v449 c1_i32_426
  let v453 : BitVec 32 := Scalar.addi c0_i32_427 v452
  v453.toNat
def k0_dev38 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_430 : BitVec 32 := 8#32
  let v460 : BitVec 32 := Scalar.addi v2 c8_i32_430
  let c16_i32_431 : BitVec 32 := 16#32
  let v461 : BitVec 32 := Scalar.remsi v460 c16_i32_431
  let c1_i32_436 : BitVec 32 := 1#32
  let v464 : BitVec 32 := Scalar.muli v461 c1_i32_436
  let v465 : BitVec 32 := Scalar.addi c0_i32_437 v464
  v465.toNat
def k0_dev39 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_440 : BitVec 32 := 9#32
  let v472 : BitVec 32 := Scalar.addi v2 c9_i32_440
  let c16_i32_441 : BitVec 32 := 16#32
  let v473 : BitVec 32 := Scalar.remsi v472 c16_i32_441
  let c1_i32_446 : BitVec 32 := 1#32
  let v476 : BitVec 32 := Scalar.muli v473 c1_i32_446
  let v477 : BitVec 32 := Scalar.addi c0_i32_447 v476
  v477.toNat
def k0_dev40 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_450 : BitVec 32 := 10#32
  let v484 : BitVec 32 := Scalar.addi v2 c10_i32_450
  let c16_i32_451 : BitVec 32 := 16#32
  let v485 : BitVec 32 := Scalar.remsi v484 c16_i32_451
  let c1_i32_456 : BitVec 32 := 1#32
  let v488 : BitVec 32 := Scalar.muli v485 c1_i32_456
  let v489 : BitVec 32 := Scalar.addi c0_i32_457 v488
  v489.toNat
def k0_dev41 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_460 : BitVec 32 := 11#32
  let v496 : BitVec 32 := Scalar.addi v2 c11_i32_460
  let c16_i32_461 : BitVec 32 := 16#32
  let v497 : BitVec 32 := Scalar.remsi v496 c16_i32_461
  let c1_i32_466 : BitVec 32 := 1#32
  let v500 : BitVec 32 := Scalar.muli v497 c1_i32_466
  let v501 : BitVec 32 := Scalar.addi c0_i32_467 v500
  v501.toNat
def k0_dev42 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_470 : BitVec 32 := 12#32
  let v508 : BitVec 32 := Scalar.addi v2 c12_i32_470
  let c16_i32_471 : BitVec 32 := 16#32
  let v509 : BitVec 32 := Scalar.remsi v508 c16_i32_471
  let c1_i32_476 : BitVec 32 := 1#32
  let v512 : BitVec 32 := Scalar.muli v509 c1_i32_476
  let v513 : BitVec 32 := Scalar.addi c0_i32_477 v512
  v513.toNat
def k0_dev43 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_480 : BitVec 32 := 13#32
  let v520 : BitVec 32 := Scalar.addi v2 c13_i32_480
  let c16_i32_481 : BitVec 32 := 16#32
  let v521 : BitVec 32 := Scalar.remsi v520 c16_i32_481
  let c1_i32_486 : BitVec 32 := 1#32
  let v524 : BitVec 32 := Scalar.muli v521 c1_i32_486
  let v525 : BitVec 32 := Scalar.addi c0_i32_487 v524
  v525.toNat
def k0_dev44 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_490 : BitVec 32 := 14#32
  let v532 : BitVec 32 := Scalar.addi v2 c14_i32_490
  let c16_i32_491 : BitVec 32 := 16#32
  let v533 : BitVec 32 := Scalar.remsi v532 c16_i32_491
  let c1_i32_496 : BitVec 32 := 1#32
  let v536 : BitVec 32 := Scalar.muli v533 c1_i32_496
  let v537 : BitVec 32 := Scalar.addi c0_i32_497 v536
  v537.toNat
def k0_dev45 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_500 : BitVec 32 := 15#32
  let v544 : BitVec 32 := Scalar.addi v2 c15_i32_500
  let c16_i32_501 : BitVec 32 := 16#32
  let v545 : BitVec 32 := Scalar.remsi v544 c16_i32_501
  let c1_i32_506 : BitVec 32 := 1#32
  let v548 : BitVec 32 := Scalar.muli v545 c1_i32_506
  let v549 : BitVec 32 := Scalar.addi c0_i32_507 v548
  v549.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S_, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Loops.lean ====
/-
  The kernel body written as loops over the fifteen peers. The printed body is straight-line text: for
  each of its seven phases (signal, send a partial, wait for a partial, send a chunk, wait for a chunk, and
  the two drains) the same operation fifteen times over. Here each phase is one operation at a symbolic
  peer number, repeated; and the printed body is that program by unfolding.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Fused

open Cert.KernelIdeal Cert.KernelIdeal.Gen
open Idealize.ShloMosaic Idealize.ShloMosaic.TcCoe
open Idealize.SL.Sem

variable {F : FTy → Type} [FloatOps F]

/-- The number of peers. -/
abbrev NP : ℕ := 15

/-- A program run once for each of `n` numbers, in order. -/
def steps {E : Type → Type} : (n : ℕ) → (Fin n → Prog E PUnit) → Prog E PUnit
  | 0, _ => .ret ⟨⟩
  | n + 1, f => (f 0).bind fun _ => steps n fun i => f i.succ

/-! ## The printed device chains, as one family per phase -/

/-- The device the `e`-th signal of device `c` goes to, as printed. -/
def sigDev (e : Fin NP) : Dev nD → ℕ :=
  match e with
  | 0 => k0_dev1 | 1 => k0_dev2 | 2 => k0_dev3 | 3 => k0_dev4 | 4 => k0_dev5 | 5 => k0_dev6 | 6 => k0_dev7 | 7 => k0_dev8
  | 8 => k0_dev9 | 9 => k0_dev10 | 10 => k0_dev11 | 11 => k0_dev12 | 12 => k0_dev13 | 13 => k0_dev14 | 14 => k0_dev15

/-- The device the `e`-th partial of device `c` goes to, as printed. -/
def rsDev (e : Fin NP) : Dev nD → ℕ :=
  match e with
  | 0 => k0_dev16 | 1 => k0_dev17 | 2 => k0_dev18 | 3 => k0_dev19 | 4 => k0_dev20 | 5 => k0_dev21 | 6 => k0_dev22 | 7 => k0_dev23
  | 8 => k0_dev24 | 9 => k0_dev25 | 10 => k0_dev26 | 11 => k0_dev27 | 12 => k0_dev28 | 13 => k0_dev29 | 14 => k0_dev30

/-- The device the `e`-th copy of device `c`'s result chunk goes to, as printed. -/
def agDev (e : Fin NP) : Dev nD → ℕ :=
  match e with
  | 0 => k0_dev31 | 1 => k0_dev32 | 2 => k0_dev33 | 3 => k0_dev34 | 4 => k0_dev35 | 5 => k0_dev36 | 6 => k0_dev37 | 7 => k0_dev38
  | 8 => k0_dev39 | 9 => k0_dev40 | 10 => k0_dev41 | 11 => k0_dev42 | 12 => k0_dev43 | 13 => k0_dev44 | 14 => k0_dev45

theorem sigDev_eq (e : Fin NP) (c : Dev nD) : sigDev e c = (c.val + (e.val + 1)) % 16 := by revert e c; decide +kernel
theorem rsDev_eq (e : Fin NP) (c : Dev nD) : rsDev e c = (c.val + (e.val + 1)) % 16 := by revert e c; decide +kernel
theorem agDev_eq (e : Fin NP) (c : Dev nD) : agDev e c = (c.val + (e.val + 1)) % 16 := by revert e c; decide +kernel
theorem sigDev_lt (e : Fin NP) (c : Dev nD) : sigDev e c < nD := by rw [sigDev_eq]; exact Nat.mod_lt _ (by decide)
theorem rsDev_lt (e : Fin NP) (c : Dev nD) : rsDev e c < nD := by rw [rsDev_eq]; exact Nat.mod_lt _ (by decide)
theorem agDev_lt (e : Fin NP) (c : Dev nD) : agDev e c < nD := by rw [agDev_eq]; exact Nat.mod_lt _ (by decide)

/-! ## The operands of the phases at peer number `e` -/

theorem inb_slot (e : Fin NP) : ∀ a, (![e.val, 0, 0] : Fin 3 → ℕ) a + S1x64x1024.size a ≤ S15x64x1024.size a := by revert e; decide
theorem inb_sem (e : Fin NP) : ∀ a, (![e.val] : Fin 1 → ℕ) a + S1.size a ≤ S15.size a := by revert e; decide
theorem words_slot (e : Fin NP) : (Rect.unit (s := S15x64x1024) ![e.val, 0, 0] S1x64x1024.size (inb_slot e)).WholeWords (EltTy.packing .bf16) := by
  revert e; decide

/-- Semaphore `e` of an array of fifteen. -/
abbrev semAt (a : DmaSems sig S15) (e : Fin NP) : DmaSem sig :=
  ((a.slice (Rect.unit (s := S15) ![e.val] S1.size (inb_sem e))).squeeze S_ squeezes_S1_S_).sem

/-- The result's buffer, the partial product's and the received partials'. -/
abbrev aM : Memref sig .tc .vmem S1024x512 .bf16 := Memref.whole cc0_stg0_0
abbrev bM : Memref sig .tc .vmem S512x1024 .bf16 := Memref.whole cc0_stg1_0
abbrev oM : Memref sig .tc .vmem S1024x1024 .bf16 := Memref.whole cc0_stg2_0
abbrev pM : Memref sig .tc .vmem S1024x1024 .bf16 := Memref.whole cc0_scratch0
abbrev rM : Memref sig .tc .vmem S15x64x1024 .bf16 := Memref.whole cc0_scratch1

/-- The rows of the partial product that go to peer `e`; the slot they land in; the rows of the own chunk. -/
abbrev pRows (c : Dev nD) (e : Fin NP) : Memref sig .tc .vmem S64x1024 .bf16 :=
  pM.slice (Rect.unit (s := S1024x1024) (k0_off1 c (BitVec.ofNat 32 (1 + e.val))) S64x1024.size (k0_off1_inb c e)) (fun _ => rfl)
abbrev rSlot (e : Fin NP) : Memref sig .tc .vmem S64x1024 .bf16 :=
  (rM.slice (Rect.unit (s := S15x64x1024) ![e.val, 0, 0] S1x64x1024.size (inb_slot e)) (fun _ => rfl)).squeeze S64x1024 squeezes_S1x64x1024_S64x1024
abbrev oRows (c : Dev nD) : Memref sig .tc .vmem S64x1024 .bf16 :=
  oM.slice (Rect.unit (s := S1024x1024) (k0_off3 c) S64x1024.size (k0_off3_inb c)) (fun _ => rfl)

theorem pRows_words (c : Dev nD) (e : Fin NP) : (pRows c e).view.WordExact :=
  (Memref.isWhole_whole cc0_scratch0).wordExact_slice rfl _ (k0_off1_wordsbf16 c e)
theorem rSlot_words (e : Fin NP) : (rSlot e).view.WordExact :=
  ((Memref.isWhole_whole cc0_scratch1).wordExact_slice rfl _ (words_slot e)).reshape _ _
theorem oRows_words (c : Dev nD) : (oRows c).view.WordExact :=
  (Memref.isWhole_whole cc0_stg2_0).wordExact_slice rfl _ (k0_off3_wordsbf16 c)

/-- The runtime's barrier semaphore of collective id 0. -/
abbrev barS : Sem sig := (SemArray.scalar (sig.barrier 0 rfl) : Sems sig S_).sem

abbrev KProg (α : Type) : Type 1 := Prog (TpuEff nD τ sig (Elt F) Λ₀ .tc) α

/-! ## The phases -/

def sigStep (c : Dev nD) (e : Fin NP) : Prog (TpuEff nD τ sig (Elt F) Λ₀ .tc) PUnit :=
  semSignalWord (⟨sigDev e c, sigDev_lt e c⟩ : Dev nD) barS 1#32
def rsSend (c : Dev nD) (e : Fin NP) : Prog (TpuEff nD τ sig (Elt F) Λ₀ .tc) PUnit :=
  Prog.lift (.enqueueDma (pRows c e) (.remote (Dev.tc (⟨rsDev e c, rsDev_lt e c⟩ : Dev nD)) (rSlot e) (.dma (semAt cc0_scratch2 e)))
    (.dma (semAt cc0_scratch3 e)) (pRows_words c e) (rSlot_words e) ⟨⟨rfl, Or.inl rfl⟩, trivial⟩)
def rsWait (c : Dev nD) (e : Fin NP) : Prog (TpuEff nD τ sig (Elt F) Λ₀ .tc) PUnit :=
  Prog.lift (.waitDma2 (semAt cc0_scratch3 e) (pRows c e) (rSlot e) (pRows_words c e) (rSlot_words e))
def agSend (c : Dev nD) (e : Fin NP) : Prog (TpuEff nD τ sig (Elt F) Λ₀ .tc) PUnit :=
  Prog.lift (.enqueueDma (oRows c) (.remote (Dev.tc (⟨agDev e c, agDev_lt e c⟩ : Dev nD)) (oRows c) (.dma (semAt cc0_scratch4 e)))
    (.dma (semAt cc0_scratch5 e)) (oRows_words c) (oRows_words c) ⟨⟨rfl, Or.inl rfl⟩, trivial⟩)
def agWait (c : Dev nD) (e : Fin NP) : Prog (TpuEff nD τ sig (Elt F) Λ₀ .tc) PUnit :=
  Prog.lift (.waitDma2 (semAt cc0_scratch5 e) (oRows c) (oRows c) (oRows_words c) (oRows_words c))
def rsDrain (c : Dev nD) (e : Fin NP) : Prog (TpuEff nD τ sig (Elt F) Λ₀ .tc) PUnit :=
  Prog.lift (.waitDma2 (semAt cc0_scratch2 e) (rSlot e) (pRows c e) (rSlot_words e) (pRows_words c e))
def agDrain (c : Dev nD) (e : Fin NP) : Prog (TpuEff nD τ sig (Elt F) Λ₀ .tc) PUnit :=
  Prog.lift (.waitDma2 (semAt cc0_scratch4 e) (oRows c) (oRows c) (oRows_words c) (oRows_words c))

/-- The rectangles of the loads and stores. -/
abbrev aR : Rect S1024x512 := Rect.unit (s := S1024x512) ![0, 0] S1024x512.size inb_S1024x512_S1024x512_0_0
abbrev bR : Rect S512x1024 := Rect.unit (s := S512x1024) ![0, 0] S512x1024.size inb_S512x1024_S512x1024_0_0
abbrev mR : Rect S1024x1024 := Rect.unit (s := S1024x1024) ![0, 0] S1024x1024.size inb_S1024x1024_S1024x1024_0_0
abbrev cR (c : Dev nD) : Rect S1024x1024 := Rect.unit (s := S1024x1024) (k0_off2 c) S64x1024.size (k0_off2_inb c)
abbrev sR : Rect S15x64x1024 := Rect.unit (s := S15x64x1024) ![0, 0, 0] S15x64x1024.size inb_S15x64x1024_S15x64x1024_0_0_0

/-- The body on device `c`, after it has read its own number. -/
def bodyAt (c : Dev nD) : Prog (TpuEff nD τ sig (Elt F) Λ₀ .tc) PUnit :=
  (steps NP (sigStep c)).bind fun _ =>
  .op (.load aM aR.toLoadRect (View.loadsAt_vmem h_S1024x512)) fun a =>
  .op (.load bM bR.toLoadRect (View.loadsAt_vmem h_S512x1024)) fun b =>
  .op (.load pM mR.toLoadRect (View.loadsAt_vmem h_S1024x1024)) fun _ =>
  .op (.store pM mR (k0_pay1 a b) Finset.univ
    (View.stores_vmem h_S1024x1024 ((Memref.isWhole_whole cc0_scratch0).storeExact_slice rfl _ packedbf16_S1024x1024_S1024x1024_0_0) (fun _ => rfl)) (.inl rfl)) fun _ =>
  (semWaitWord barS 15#32).bind fun _ =>
  (steps NP (rsSend c)).bind fun _ =>
  (steps NP (rsWait c)).bind fun _ =>
  .op (.load pM (cR c).toLoadRect (View.loadsAt_vmem h_S64x1024)) fun p =>
  .op (.load rM sR.toLoadRect (View.loadsAt_vmem h_S15x64x1024)) fun r =>
  .op (.load oM (cR c).toLoadRect (View.loadsAt_vmem h_S64x1024)) fun _ =>
  .op (.store oM (cR c) (k0_pay2 p r) Finset.univ
    (View.stores_vmem h_S64x1024 ((Memref.isWhole_whole cc0_stg2_0).storeExact_slice rfl _ (k0_off2_packedbf16 c)) (fun _ => rfl)) (.inl rfl)) fun _ =>
  (steps NP (agSend c)).bind fun _ =>
  (steps NP (agWait c)).bind fun _ =>
  (steps NP (rsDrain c)).bind fun _ =>
  steps NP (agDrain c)

set_option maxRecDepth 65536 in
set_option maxHeartbeats 2000000 in
/-- The printed body is the device read and the loops. -/
theorem body_eq_loops :
    cc0_body (F := F) aM (Memref.isWhole_whole _) bM (Memref.isWhole_whole _) oM (Memref.isWhole_whole _) pM (Memref.isWhole_whole _) rM (Memref.isWhole_whole _)
      cc0_scratch2 cc0_scratch3 cc0_scratch4 cc0_scratch5
    = .op .deviceId fun c => bodyAt c := rfl

end Cert.Fused

end
-- ==== Proof.Geometry.lean ====
/-
  The peers of a device, and the parts of the three buffers the devices pass to each other: the sixteen
  row blocks of a 1024x1024 buffer and the fifteen slots of the received partials; which elements the
  printed slices name, and what a copy between two of them leaves.
-/
module

public import proofs.«01_k».proof.Proof.Loops
public import Idealize.ShloMosaic.Lib.ViewIndex
public import Idealize.ShloMosaic.Lib.ValueIdxCore
public import Idealize.ShloMosaic.Lib.ValueIdxCoords

@[expose] public section

noncomputable section

namespace Cert.Fused

open Cert.KernelIdeal Cert.KernelIdeal.Gen
open Idealize.ShloMosaic Idealize.ShloMosaic.TcCoe
open Idealize.ShloMosaic.ValueIdx (ix2 ix3)

variable {F : FTy → Type} [FloatOps F]

/-! ## The peers -/

/-- Device `c`'s `e`-th peer: `e + 1` places on. -/
def peer (e : Fin NP) (c : Dev nD) : Dev nD := ⟨(c.val + (e.val + 1)) % 16, Nat.mod_lt _ (by decide)⟩
/-- The peer number that leads back. -/
def rev (e : Fin NP) : Fin NP := ⟨14 - e.val, by show 14 - e.val < 15; omega⟩
/-- The device whose `e`-th peer is `c`. -/
def src (e : Fin NP) (c : Dev nD) : Dev nD := peer (rev e) c

theorem rev_rev (e : Fin NP) : rev (rev e) = e := by revert e; decide
theorem peer_rev (e : Fin NP) (c : Dev nD) : peer (rev e) (peer e c) = c := by revert e c; decide
theorem src_peer (e : Fin NP) (c : Dev nD) : src e (peer e c) = c := peer_rev e c
theorem peer_src (e : Fin NP) (c : Dev nD) : peer e (src e c) = c := by revert e c; decide
theorem peer_ne (e : Fin NP) (c : Dev nD) : peer e c ≠ c := by revert e c; decide
theorem peer_inj (c : Dev nD) {e e' : Fin NP} (h : peer e c = peer e' c) : e = e' := by revert c e e'; decide +kernel

theorem sigDev_peer (e : Fin NP) (c : Dev nD) : (⟨sigDev e c, sigDev_lt e c⟩ : Dev nD) = peer e c := Fin.ext (sigDev_eq e c)
theorem rsDev_peer (e : Fin NP) (c : Dev nD) : (⟨rsDev e c, rsDev_lt e c⟩ : Dev nD) = peer e c := Fin.ext (rsDev_eq e c)
theorem agDev_peer (e : Fin NP) (c : Dev nD) : (⟨agDev e c, agDev_lt e c⟩ : Dev nD) = peer e c := Fin.ext (agDev_eq e c)

/-- A device and a peer number, and its peer with the number that leads back: each other's. -/
def swapE : Dev nD × Fin NP ≃ Dev nD × Fin NP where
  toFun x := (peer x.2 x.1, rev x.2)
  invFun x := (peer x.2 x.1, rev x.2)
  left_inv x := by rcases x with ⟨c, e⟩; exact Prod.ext (peer_rev e c) (rev_rev e)
  right_inv x := by rcases x with ⟨c, e⟩; exact Prod.ext (peer_rev e c) (rev_rev e)
/-- A device and a peer number, and the peer with the same number. -/
def sendE : Dev nD × Fin NP ≃ Dev nD × Fin NP where
  toFun x := (peer x.2 x.1, x.2)
  invFun x := (src x.2 x.1, x.2)
  left_inv x := by rcases x with ⟨c, e⟩; exact Prod.ext (src_peer e c) rfl
  right_inv x := by rcases x with ⟨c, e⟩; exact Prod.ext (peer_src e c) rfl

/-- Every device is one device or exactly one of its peers. -/
def devOf (c : Dev nD) : Option (Fin NP) ≃ Dev nD :=
  Equiv.ofBijective (fun o => o.elim c fun e => peer e c) (by revert c; decide +kernel)
/-- Likewise with the devices whose peer it is. -/
def devSrc (c : Dev nD) : Option (Fin NP) ≃ Dev nD :=
  Equiv.ofBijective (fun o => o.elim c fun e => src e c) (by revert c; decide +kernel)

/-! ## Row blocks and slots -/

abbrev Mat (F : FTy → Type) : Type := S1024x1024.Idx → Elt F .bf16
abbrev Slots (F : FTy → Type) : Type := S15x64x1024.Idx → Elt F .bf16
abbrev Rows (F : FTy → Type) : Type := S64x1024.Idx → Elt F .bf16

/-- Row block `j` of a 1024x1024 buffer: rows `64*j` to `64*j + 63`. -/
def rowSet (j : Dev nD) : Finset S1024x1024.Idx := Finset.univ.filter fun i => (i 0).val / 64 = j.val
/-- Slot `e` of the received partials. -/
def slotSet (e : Fin NP) : Finset S15x64x1024.Idx := Finset.univ.filter fun i => (i 0).val = e.val

theorem mem_rowSet {j : Dev nD} {i : S1024x1024.Idx} : i ∈ rowSet j ↔ (i 0).val / 64 = j.val := by simp [rowSet]
theorem mem_slotSet {e : Fin NP} {i : S15x64x1024.Idx} : i ∈ slotSet e ↔ (i 0).val = e.val := by simp [slotSet]

theorem rowSet_disjoint {j j' : Dev nD} (h : j ≠ j') : Disjoint (rowSet j) (rowSet j') :=
  Finset.disjoint_left.mpr fun i hi hi' => h (Fin.ext ((mem_rowSet.mp hi).symm.trans (mem_rowSet.mp hi')))
theorem slotSet_disjoint {e e' : Fin NP} (h : e ≠ e') : Disjoint (slotSet e) (slotSet e') :=
  Finset.disjoint_left.mpr fun i hi hi' => h (Fin.ext ((mem_slotSet.mp hi).symm.trans (mem_slotSet.mp hi')))
theorem rowSet_cover (i : S1024x1024.Idx) : ∃ j, i ∈ rowSet j :=
  ⟨⟨(i 0).val / 64, by have : (i 0).val < 1024 := (i 0).isLt; show _ < 16; omega⟩, mem_rowSet.mpr rfl⟩
theorem slotSet_cover (i : S15x64x1024.Idx) : ∃ e, i ∈ slotSet e := ⟨⟨(i 0).val, (i 0).isLt⟩, mem_slotSet.mpr rfl⟩

/-- Two places of a matrix shape with the same coordinates are one. -/
theorem ext2 {n0 n1 : ℕ} {x y : (⟨2, ![n0, n1]⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- The element of row `r`, column `q` of row block `j`. -/
def rowIx (j : Dev nD) (x : S64x1024.Idx) : S1024x1024.Idx :=
  ix2 ⟨64 * j.val + (x 0).val, by have : (x 0).val < 64 := (x 0).isLt; have : j.val < 16 := j.isLt; omega⟩ ⟨(x 1).val, (x 1).isLt⟩
/-- The element of slot `e`. -/
def slotIx (e : Fin NP) (x : S64x1024.Idx) : S15x64x1024.Idx := ix3 e ⟨(x 0).val, (x 0).isLt⟩ ⟨(x 1).val, (x 1).isLt⟩

theorem rowIx_0 (j : Dev nD) (x : S64x1024.Idx) : (rowIx j x 0).val = 64 * j.val + (x 0).val := rfl
theorem rowIx_1 (j : Dev nD) (x : S64x1024.Idx) : (rowIx j x 1).val = (x 1).val := rfl

/-! ## The elements the printed slices name -/

/-- A row slice's elements, at any way the offset is written. -/
theorem emb_rows {off : Fin 2 → ℕ} {inb : ∀ a, off a + S64x1024.size a ≤ S1024x1024.size a} {j : Dev nD} (h : off = ![64 * j.val, 0]) (x : S64x1024.Idx) :
    (Rect.unit (s := S1024x1024) off S64x1024.size inb).emb x = rowIx j x := by
  subst h
  refine ext2 ?_ ?_
  · show 64 * j.val + 1 * (x 0).val = 64 * j.val + (x 0).val; omega
  · show 0 + 1 * (x 1).val = (x 1).val; omega

theorem map_rowIx {f : S64x1024.Idx ↪ S1024x1024.Idx} {j : Dev nD} (h : ∀ x, f x = rowIx j x) : Finset.univ.map f = rowSet j := by
  ext i
  rw [Finset.mem_map, mem_rowSet]
  constructor
  · rintro ⟨x, -, rfl⟩
    have : (x 0).val < 64 := (x 0).isLt
    rw [h, rowIx_0]; omega
  · intro hi
    have h0 : (i 0).val < 1024 := (i 0).isLt
    refine ⟨ix2 ⟨(i 0).val % 64, Nat.mod_lt _ (by decide)⟩ ⟨(i 1).val, (i 1).isLt⟩, Finset.mem_univ _, ?_⟩
    rw [h]
    refine ext2 ?_ rfl
    show 64 * j.val + (i 0).val % 64 = (i 0).val
    omega

theorem pRows_off (c : Dev nD) (e : Fin NP) : k0_off1 c (BitVec.ofNat 32 (1 + e.val)) = ![64 * (peer e c).val, 0] := by
  rw [k0_off1_eq]; unfold peer; simp only [Nat.add_assoc]

theorem pRows_emb (c : Dev nD) (e : Fin NP) (x : S64x1024.Idx) : (pRows c e).view.emb x = rowIx (peer e c) x := emb_rows (pRows_off c e) x
theorem oRows_emb (c : Dev nD) (x : S64x1024.Idx) : (oRows c).view.emb x = rowIx c x := emb_rows (k0_off3_eq c) x
theorem cR_emb (c : Dev nD) (x : S64x1024.Idx) : (cR c).emb x = rowIx c x := emb_rows (k0_off2_eq c) x
theorem pRows_set (c : Dev nD) (e : Fin NP) : (pRows c e).view.set = rowSet (peer e c) := map_rowIx (pRows_emb c e)
theorem oRows_set (c : Dev nD) : (oRows c).view.set = rowSet c := map_rowIx (oRows_emb c)
theorem cR_set (c : Dev nD) : (cR c).set = rowSet c := by rw [← Rect.map_emb_univ]; exact map_rowIx (cR_emb c)

theorem rSlot_emb (e : Fin NP) (x : S64x1024.Idx) : (rSlot e).view.emb x = slotIx e x := by
  show (Rect.unit (s := S15x64x1024) ![e.val, 0, 0] S1x64x1024.size (inb_slot e)).emb (Shape.reshapeEquiv _ x) = _
  rw [show Shape.reshapeEquiv (s := S1x64x1024) (s' := S64x1024) squeezes_S1x64x1024_S64x1024.numel_eq x = Fin.cons ⟨0, Nat.one_pos⟩ x from
    Shape.reshapeEquiv_cons_one _ x]
  refine Shape.idx3_ext ?_ ?_ ?_
  · show e.val + 1 * 0 = e.val; omega
  · show 0 + 1 * (x 0).val = (x 0).val; omega
  · show 0 + 1 * (x 1).val = (x 1).val; omega

theorem rSlot_set (e : Fin NP) : (rSlot e).view.set = slotSet e := by
  show Finset.univ.map (rSlot e).view.emb = slotSet e
  ext i
  rw [Finset.mem_map, mem_slotSet]
  constructor
  · rintro ⟨x, -, rfl⟩
    rw [rSlot_emb]; rfl
  · intro hi
    refine ⟨ix2 ⟨(i 1).val, (i 1).isLt⟩ ⟨(i 2).val, (i 2).isLt⟩, Finset.mem_univ _, ?_⟩
    rw [rSlot_emb]
    exact Shape.idx3_ext hi.symm rfl rfl

/-! ## The contents -/

/-- The rows of block `j`. -/
def rowsOf (X : Mat F) (j : Dev nD) : Rows F := fun x => X (rowIx j x)

/-- The partials device `c` receives: in slot `e`, block `c` of the partial product of the device whose
    `e`-th peer it is. -/
def recvd (P : Dev nD → Mat F) (c : Dev nD) : Slots F :=
  fun i => P (src ⟨(i 0).val, (i 0).isLt⟩ c) (rowIx c (ix2 ⟨(i 1).val, (i 1).isLt⟩ ⟨(i 2).val, (i 2).isLt⟩))

/-- The chunk device `j` computes. -/
def chunk (P : Dev nD → Mat F) (j : Dev nD) : Rows F := k0_pay2 (rowsOf (P j) j) (recvd P j)

/-- The result, the same on every device: row block `j` is device `j`'s chunk. -/
def result (P : Dev nD → Mat F) : Mat F :=
  fun i => chunk P ⟨(i 0).val / 64, by have : (i 0).val < 1024 := (i 0).isLt; show _ < 16; omega⟩
    (ix2 ⟨(i 0).val % 64, Nat.mod_lt _ (by decide)⟩ ⟨(i 1).val, (i 1).isLt⟩)

omit [FloatOps F] in
theorem recvd_slot (P : Dev nD → Mat F) (c : Dev nD) (e : Fin NP) (x : S64x1024.Idx) : recvd P c (slotIx e x) = P (src e c) (rowIx c x) := rfl

theorem result_row (P : Dev nD → Mat F) (j : Dev nD) (x : S64x1024.Idx) : result P (rowIx j x) = chunk P j x := by
  have h0 : (x 0).val < 64 := (x 0).isLt
  unfold result
  have hj : (⟨(rowIx j x 0).val / 64, by have : (rowIx j x 0).val < 1024 := (rowIx j x 0).isLt; show _ < 16; omega⟩ : Dev nD) = j :=
    Fin.ext (by show (64 * j.val + (x 0).val) / 64 = j.val; omega)
  have hx : (ix2 ⟨(rowIx j x 0).val % 64, Nat.mod_lt _ (by decide)⟩ ⟨(rowIx j x 1).val, (rowIx j x 1).isLt⟩ : S64x1024.Idx) = x :=
    ext2 (by show (64 * j.val + (x 0).val) % 64 = (x 0).val; omega) rfl
  rw [hj, hx]

omit [FloatOps F] in
/-- A partial sent: the slot it lands in holds what the receiver's slot is to hold. -/
theorem sent_slot (P : Dev nD → Mat F) (c : Dev nD) (e : Fin NP) (fd : Slots F) :
    ∀ i ∈ slotSet e, (rSlot e).view.write (Elt F) fd ((pRows c e).view.read (Elt F) (P c)) Finset.univ i = recvd P (peer e c) i := by
  intro i hi
  rw [← rSlot_set e] at hi
  obtain ⟨x, -, rfl⟩ := Finset.mem_map.mp hi
  have h1 := View.write_emb_of_mem (v := (rSlot e).view) (Val := Elt F) fd ((pRows c e).view.read (Elt F) (P c)) (Finset.mem_univ x)
  refine h1.trans ?_
  have h2 : recvd P (peer e c) ((rSlot e).view.emb x) = P c (rowIx (peer e c) x) := by
    rw [rSlot_emb, recvd_slot, src_peer]
  refine Eq.trans ?_ h2.symm
  show P c ((pRows c e).view.emb x) = _
  rw [pRows_emb]

omit [FloatOps F] in
/-- A chunk sent: the receiver's rows hold the sender's. -/
theorem sent_rows (X : Mat F) (c : Dev nD) (fd : Mat F) :
    ∀ i ∈ rowSet c, (oRows c).view.write (Elt F) fd ((oRows c).view.read (Elt F) X) Finset.univ i = X i := by
  intro i hi
  rw [← oRows_set c] at hi
  obtain ⟨x, -, rfl⟩ := Finset.mem_map.mp hi
  exact View.write_emb_of_mem (v := (oRows c).view) (Val := Elt F) fd ((oRows c).view.read (Elt F) X) (Finset.mem_univ x)

omit [FloatOps F] in
/-- The own chunk's rows as loaded. -/
theorem load_rows (X : Mat F) (c : Dev nD) : pM.view.readAt (Elt F) (cR c).toLoadRect X = rowsOf X c := by
  funext x
  show X ((cR c).emb x) = _
  rw [cR_emb]; rfl

/-- The own chunk's rows as stored. -/
theorem store_rows (P : Dev nD → Mat F) (c : Dev nD) (f : Mat F) :
    ∀ i ∈ rowSet c, ((oM.access (cR c) : View sig .tc _ _ _).write (Elt F) f (chunk P c) Finset.univ) i = result P i := by
  intro i hi
  have hs : (oM.access (cR c) : View sig .tc _ _ _).set = rowSet c := map_rowIx (cR_emb c)
  rw [← hs] at hi
  obtain ⟨x, -, rfl⟩ := Finset.mem_map.mp hi
  refine (View.write_emb_of_mem (v := (oM.access (cR c) : View sig .tc _ _ _)) (Val := Elt F) f (chunk P c) (Finset.mem_univ x)).trans ?_
  have : (oM.access (cR c) : View sig .tc _ _ _).emb x = rowIx c x := cR_emb c x
  rw [this, result_row]; rfl

end Cert.Fused

end
-- ==== Proof.Schedule.lean ====
/-
  The protocol of the devices' semaphores. A device has sixty-one counters of the kernel: the barrier, which
  its fifteen peers signal once each, and for every peer number four copy counters: a partial sent, a partial
  received, a chunk sent, a chunk received. Each is used for one round; what comes with a unit of each is
  stated here with the contents it holds.
-/
module

public import proofs.«01_k».proof.Proof.Geometry
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin NP)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

/-- Which counter: the barrier, or of a peer number the one for a partial sent (0), a partial received (1),
    a chunk sent (2), a chunk received (3). -/
abbrev Key : Type := Option (Fin 4 × Fin NP)

/-- The copy counter of a use and a peer number. -/
def copySem : Fin 4 → Fin NP → DmaSem sig
  | 0, e => semAt cc0_scratch2 e
  | 1, e => semAt cc0_scratch3 e
  | 2, e => semAt cc0_scratch4 e
  | 3, e => semAt cc0_scratch5 e

/-- The use and peer number of a copy counter, if it is one of these. -/
def useOf (q : DmaSem sig) : Option (Fin 4 × Fin NP) :=
  if h : 3 ≤ q.val ∧ q.val < 63 then some (⟨(q.val - 3) / 15, by omega⟩, ⟨(q.val - 3) % 15, Nat.mod_lt _ (by decide)⟩) else none

set_option maxRecDepth 4000 in
theorem copySem_val (j : Fin 4) (e : Fin NP) : (copySem j e).val = 3 + 15 * j.val + e.val := by revert j e; decide +kernel
theorem useOf_copySem (j : Fin 4) (e : Fin NP) : useOf (copySem j e) = some (j, e) := by
  have h := copySem_val j e
  have he : e.val < 15 := e.isLt
  unfold useOf
  rw [dif_pos (by rw [h]; omega)]
  exact congrArg some (Prod.ext (Fin.ext (by show ((copySem j e).val - 3) / 15 = j.val; rw [h]; omega)) (Fin.ext (by show ((copySem j e).val - 3) % 15 = e.val; rw [h]; omega)))

/-- A counter's place. -/
def place : Key → SemLoc sig
  | none => .reg barS
  | some (j, e) => .dma (copySem j e)

/-- The counter at a place, if it is one of these. -/
def keyOf : SemLoc sig → Option Key
  | .reg _ => some none
  | .dma q => (useOf q).map some

theorem keyOf_place (k : Key) : keyOf (place k) = some k := by
  rcases k with _ | ⟨j, e⟩
  · rfl
  · show (useOf (copySem j e)).map some = _; rw [useOf_copySem]; rfl
theorem place_injective : Function.Injective place := fun a b h => Option.some.inj ((keyOf_place a).symm.trans ((congrArg keyOf h).trans (keyOf_place b)))

/-- Device `c`'s counter. -/
abbrev cell (c : Dev nD) (k : Key) : GSem nD τ sig := ((c : Thread nD τ), place k)

theorem cell_inj {c c' : Dev nD} {k k' : Key} (h : cell c k = cell c' k') : c = c' ∧ k = k' :=
  ⟨congrArg (fun g : GSem nD τ sig => g.1.1) h, place_injective (congrArg Prod.snd h)⟩

/-- The units of one copied block. -/
abbrev N : ℕ := (rSlot 0).view.dmaCredit
theorem N_pos : 0 < N := View.dmaCredit_pos _ (by decide)

/-! ## What is held of the three buffers -/

def slotPts (c : Dev nD) (e : Fin NP) (f : Slots F) : sProp 𝕄 := ((c : Thread nD τ).loc cc0_scratch1) ↦[slotSet e]{fullShare} f
def partPts (c : Dev nD) (j : Dev nD) (f : Mat F) : sProp 𝕄 := ((c : Thread nD τ).loc cc0_scratch0) ↦[rowSet j]{fullShare} f
def outPts (q : PosShare TreeShare) (c : Dev nD) (j : Dev nD) (f : Mat F) : sProp 𝕄 := ((c : Thread nD τ).loc cc0_stg2_0) ↦[rowSet j]{q} f

instance slotPts_storable (c : Dev nD) (e : Fin NP) (f : Slots F) : BI.Storable (upEmb : UEmb _ 𝕄) (slotPts c e f) := by unfold slotPts; infer_instance
instance partPts_storable (c j : Dev nD) (f : Mat F) : BI.Storable (upEmb : UEmb _ 𝕄) (partPts c j f) := by unfold partPts; infer_instance
instance outPts_storable (q : PosShare TreeShare) (c j : Dev nD) (f : Mat F) : BI.Storable (upEmb : UEmb _ 𝕄) (outPts q c j f) := by unfold outPts; infer_instance

/-- The share of the chunk's rows that the `e`-th copy reads with, and the one left over. -/
def leafAt (i : Fin 16) : PosShare TreeShare := ShareLeaves.leaf 4 fullShare i
def share (e : Fin NP) : PosShare TreeShare := leafAt e.castSucc
def spare : PosShare TreeShare := leafAt 15

/-! ## The schedule -/

variable (P : Dev nD → Mat F)

/-- What device `c`'s `d`-th peer hands it with its signal: the peer's slot `d`, and row block `c` of the
    peer's result, to be written by `c`. -/
def barPay (c : Dev nD) (d : Fin NP) : sProp 𝕄 := iprop((∃ f, slotPts (peer d c) d f) ∗ ∃ f, outPts fullShare (peer d c) c f)

/-- What comes with a copy counter's units: the rows lent to the copy, or the rows that landed. -/
def copyPay (c : Dev nD) : Fin 4 × Fin NP → sProp 𝕄
  | (0, e) => partPts c (peer e c) (P c)
  | (1, e) => slotPts c e (recvd P c)
  | (2, e) => outPts (share e) c c (result P)
  | (3, e) => outPts fullShare c (src e c) (result P)

instance barPay_storable (c : Dev nD) (d : Fin NP) : BI.Storable (upEmb : UEmb _ 𝕄) (barPay (F := F) c d) := by unfold barPay; infer_instance
instance copyPay_storable (c : Dev nD) (x : Fin 4 × Fin NP) : BI.Storable (upEmb : UEmb _ 𝕄) (copyPay P c x) := by
  rcases x with ⟨j, e⟩
  match j with
  | 0 => show BI.Storable upEmb (partPts c (peer e c) (P c)); infer_instance
  | 1 => show BI.Storable upEmb (slotPts c e (recvd P c)); infer_instance
  | 2 => show BI.Storable upEmb (outPts (share e) c c (result P)); infer_instance
  | 3 => show BI.Storable upEmb (outPts fullShare c (src e c) (result P)); infer_instance

/-- The parts of a counter's round, by its key. -/
def partsOf : Option Key → Finset (Fin NP)
  | some none => Finset.univ
  | some (some _) => {0}
  | none => ∅
def payOf (c : Dev nD) : Option Key → Fin NP → sProp 𝕄
  | some none, d => barPay c d
  | some (some x), _ => copyPay P c x
  | none, _ => iprop(emp)
def unitsOf : Option Key → ℕ
  | some none => 1
  | _ => N

/-- One round: the barrier's fifteen parts of one unit, a copy counter's single part of a block's units. -/
def sched : Rounds.Schedule (GSem nD τ sig) (Fin NP) 𝕄 where
  duties g r := if r = 0 ∧ g.1.2 = .tc then partsOf (keyOf g.2) else ∅
  unitless _ := False
  amount g _ _ := unitsOf (keyOf g.2)
  payload g _ d := payOf P g.1.1 (keyOf g.2) d
  amount_pos g _ _ _ := by
    show 0 < unitsOf (keyOf g.2)
    rcases keyOf g.2 with _ | _ | _
    · exact N_pos
    · exact Nat.one_pos
    · exact N_pos

instance sched_storable (g : GSem nD τ sig) (r : ℕ) (d : Fin NP) : BI.Storable (upEmb : UEmb _ 𝕄) ((sched P).payload g r d) := by
  show BI.Storable upEmb (payOf P g.1.1 (keyOf g.2) d)
  rcases keyOf g.2 with _ | _ | x
  · exact inferInstanceAs (BI.Storable upEmb iprop(emp))
  · exact barPay_storable _ _
  · exact copyPay_storable _ _ _

section
omit [FloatOps F]
variable [FloatOps F] (c : Dev nD)

theorem duties_cell (k : Key) : (sched P).duties (cell c k) 0 = partsOf (some k) := by
  show (if 0 = 0 ∧ (c : Thread nD τ).2 = .tc then partsOf (keyOf (place k)) else ∅) = _
  rw [if_pos ⟨rfl, rfl⟩, keyOf_place]
theorem duties_bar : (sched P).duties (cell c none) 0 = Finset.univ := duties_cell P c none
theorem duties_copy (x : Fin 4 × Fin NP) : (sched P).duties (cell c (some x)) 0 = {0} := duties_cell P c (some x)
theorem duties_later (g : GSem nD τ sig) : ∀ r, 1 ≤ r → (sched P).duties g r = ∅ := fun r hr => by
  show (if r = 0 ∧ _ then _ else ∅) = ∅
  rw [if_neg fun h => by omega]

theorem amount_bar (d : Fin NP) : (sched P).amount (cell c none) 0 d = 1 := rfl
theorem amount_copy (x : Fin 4 × Fin NP) (d : Fin NP) : (sched P).amount (cell c (some x)) 0 d = N := by
  show unitsOf (keyOf (place (some x))) = N
  rw [keyOf_place]; rfl

theorem expect_bar : (sched P).expect (cell c none) 0 = 15 := by
  unfold Schedule.expect Schedule.amountOf
  rw [duties_bar, Finset.sum_congr rfl fun d _ => amount_bar P c d, Finset.sum_const, Finset.card_univ, Fintype.card_fin]; rfl
theorem expect_copy (x : Fin 4 × Fin NP) : (sched P).expect (cell c (some x)) 0 = N := by
  unfold Schedule.expect Schedule.amountOf
  rw [duties_copy, Finset.sum_singleton, amount_copy]

theorem payload_bar (d : Fin NP) : (sched P).payload (cell c none) 0 d = barPay c d := rfl
theorem payload_copy (x : Fin 4 × Fin NP) (d : Fin NP) : (sched P).payload (cell c (some x)) 0 d = copyPay P c x := by
  show payOf P c (keyOf (place (some x))) d = _
  rw [keyOf_place]; rfl

theorem rest_bar : bigSep ((sched P).duties (cell c none) 0 \ ∅) (fun d => (sched P).payload (cell c none) 0 d) = bigSep Finset.univ fun d => barPay (F := F) c d := by
  rw [Finset.sdiff_empty, duties_bar]; rfl
theorem rest_copy (x : Fin 4 × Fin NP) :
    bigSep ((sched P).duties (cell c (some x)) 0 \ ∅) (fun d => (sched P).payload (cell c (some x)) 0 d) = copyPay P c x := by
  rw [Finset.sdiff_empty, duties_copy, bigSep_singleton, payload_copy]

end

/-! ## What a device owes, and in which order -/

/-- The units device `c` owes its `e`-th peer: a barrier signal, a partial, a chunk. -/
def tBar (c : Dev nD) (e : Fin NP) : CellTallies nD τ sig Unit := tallyAt (cell (peer e c) none) () 1
def tPart (c : Dev nD) (e : Fin NP) : CellTallies nD τ sig Unit := tallyAt (cell (peer e c) (some (1, e))) () N
def tChunk (c : Dev nD) (e : Fin NP) : CellTallies nD τ sig Unit := tallyAt (cell (peer e c) (some (3, e))) () N

/-- What is owed from the `k`-th peer on. -/
def owedFrom (t : Fin NP → CellTallies nD τ sig Unit) (k : ℕ) : CellTallies nD τ sig Unit := ∑ e ∈ Finset.univ.filter (fun e : Fin NP => k ≤ e.val), t e

theorem owedFrom_step (t : Fin NP → CellTallies nD τ sig Unit) (e : Fin NP) : owedFrom t e.val = owedFrom t (e.val + 1) + t e := by
  unfold owedFrom
  rw [show (Finset.univ.filter fun i : Fin NP => e.val ≤ i.val) = insert e (Finset.univ.filter fun i : Fin NP => e.val + 1 ≤ i.val) from by
      ext i
      simp only [Finset.mem_filter, Finset.mem_univ, true_and, Finset.mem_insert]
      constructor
      · intro h
        rcases Nat.eq_or_lt_of_le h with h | h
        · exact Or.inl (Fin.ext h.symm)
        · exact Or.inr h
      · rintro (rfl | h)
        · exact Nat.le_refl _
        · omega,
    Finset.sum_insert (by simp), add_comm]
theorem owedFrom_end (t : Fin NP → CellTallies nD τ sig Unit) : owedFrom t NP = 0 := by
  unfold owedFrom
  rw [Finset.filter_false_of_mem (fun e _ => by have := e.isLt; omega), Finset.sum_empty]
theorem owedFrom_zero (t : Fin NP → CellTallies nD τ sig Unit) : owedFrom t 0 = ∑ e, t e := by
  unfold owedFrom
  rw [Finset.filter_true_of_mem (fun e _ => Nat.zero_le _)]

/-- What device `c` owes at the start, while it signals, while it sends partials, while it sends chunks. -/
def owedSig (c : Dev nD) (k : ℕ) : CellTallies nD τ sig Unit := (owedFrom (tPart c) 0 + owedFrom (tChunk c) 0) + owedFrom (tBar c) k
def owedPart (c : Dev nD) (k : ℕ) : CellTallies nD τ sig Unit := owedFrom (tChunk c) 0 + owedFrom (tPart c) k
def owedChunk (c : Dev nD) (k : ℕ) : CellTallies nD τ sig Unit := owedFrom (tChunk c) k
def owed₀ (c : Dev nD) : CellTallies nD τ sig Unit := owedSig c 0

theorem owedSig_step (c : Dev nD) (e : Fin NP) : owedSig c e.val = owedSig c (e.val + 1) + tBar c e := by
  unfold owedSig; rw [owedFrom_step (tBar c) e]; exact (add_assoc _ _ _).symm
theorem owedPart_step (c : Dev nD) (e : Fin NP) : owedPart c e.val = owedPart c (e.val + 1) + tPart c e := by
  unfold owedPart; rw [owedFrom_step (tPart c) e]; exact (add_assoc _ _ _).symm
theorem owedChunk_step (c : Dev nD) (e : Fin NP) : owedChunk c e.val = owedChunk c (e.val + 1) + tChunk c e := owedFrom_step _ e
theorem owedSig_end (c : Dev nD) : owedSig c NP = owedPart c 0 := by
  unfold owedSig owedPart; rw [owedFrom_end, add_zero, add_comm]
theorem owedPart_end (c : Dev nD) : owedPart c NP = owedChunk c 0 := by unfold owedPart owedChunk; rw [owedFrom_end, add_zero]
theorem owedChunk_end (c : Dev nD) : owedChunk c NP = 0 := owedFrom_end _

/-- The order: barriers, then partials, then chunks; every other counter below. -/
def rank : Option Key → ℕ
  | some none => 1
  | some (some (1, _)) => 2
  | some (some (3, _)) => 3
  | _ => 0
def L (g : GSem nD τ sig) : Finset Unit := if g.1.2 = .tc then {()} else ∅
def lv (g : GSem nD τ sig) (_ : Unit) : ℕ := rank (keyOf g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies on a device's core and above `l`. -/
def Above (l : ℕ) (O : CellTallies nD τ sig Unit) : Prop := ∀ g u, 0 < O g u → g.1.2 = .tc ∧ l < lv g u

theorem above_zero (l : ℕ) : Above l 0 := fun g u h => absurd h (Nat.lt_irrefl 0)
theorem above_add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem above_from {l : ℕ} {t : Fin NP → CellTallies nD τ sig Unit} (h : ∀ e, Above l (t e)) (k : ℕ) : Above l (owedFrom t k) :=
  Finset.sum_induction t (Above l) (fun _ _ => above_add) (above_zero l) fun e _ => h e
theorem above_at {l : ℕ} (c : Dev nD) (k : Key) (n : ℕ) (h : l < rank (some k)) : Above l (tallyAt (cell c k) () n) := fun g u hg => by
  rw [tallyAt_apply] at hg
  by_cases hgu : g = cell c k ∧ u = ()
  · rw [hgu.1]; exact ⟨rfl, by show l < rank (keyOf (place k)); rw [keyOf_place]; exact h⟩
  · rw [if_neg hgu] at hg; exact absurd hg (Nat.lt_irrefl 0)

theorem above_owedChunk (c : Dev nD) (k : ℕ) {l : ℕ} (h : l < 3) : Above l (owedChunk c k) := above_from (fun e => above_at _ _ _ h) k
theorem above_owedPart (c : Dev nD) (k : ℕ) {l : ℕ} (h : l < 2) : Above l (owedPart c k) :=
  above_add (above_owedChunk c 0 (by omega)) (above_from (fun e => above_at _ _ _ h) k)
theorem above_owedSig (c : Dev nD) (k : ℕ) {l : ℕ} (h : l < 1) : Above l (owedSig c k) :=
  above_add (above_add (above_from (fun e => above_at _ _ _ (show l < 2 by omega)) 0) (above_owedChunk c 0 (by omega))) (above_from (fun e => above_at _ _ _ h) k)

omit [FloatOps F] in
/-- A device may wait on a counter that lies below everything it owes. -/
theorem mayWait {O : CellTallies nD τ sig Unit} (c : Dev nD) (sm : SemLoc sig) (l : ℕ) (hl : rank (keyOf sm) ≤ l) (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.Fused

end
-- ==== Proof.Phases.lean ====
/-
  The phases of the body on one device: what each repeated operation takes and leaves at a symbolic peer
  number, and so what the whole phase takes and leaves.
-/
module

public import proofs.«01_k».proof.Proof.Schedule

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## A repeated operation -/

omit [FloatOps F] in
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- If one turn takes its own part and the state before to its result and the state after, the turns together
    take all the parts and the first state to all the results and the last state. -/
theorem wp_steps {α : Type} (c : Dev nD) (Q : α → sProp 𝕄) (R : sProp 𝕄) [BI.Persistent R] :
    ∀ (n : ℕ) (f : Fin n → Prog (TpuEff nD τ sig (Elt F) Λ₀ .tc) PUnit) (Own Out : Fin n → sProp 𝕄) (T : ℕ → sProp 𝕄)
      (h : ∀ (i : Fin n) (k : PUnit → Prog (TpuEff nD τ sig (Elt F) Λ₀ .tc) α),
        iprop(R ∗ Own i ∗ T i.val) ⊢ iprop((Out i ∗ T (i.val + 1) -∗ wp frame (wpE (defs₀ (F := F)) 𝒱₀ (c : Thread nD τ) none) Set.univ (k ⟨⟩) Q)
          -∗ wp frame (wpE (defs₀ (F := F)) 𝒱₀ (c : Thread nD τ) none) Set.univ ((f i).bind k) Q))
      (k : PUnit → Prog (TpuEff nD τ sig (Elt F) Λ₀ .tc) α),
      iprop(R ∗ bigSep Finset.univ Own ∗ T 0)
        ⊢ iprop((bigSep Finset.univ Out ∗ T n -∗ wp frame (wpE (defs₀ (F := F)) 𝒱₀ (c : Thread nD τ) none) Set.univ (k ⟨⟩) Q)
          -∗ wp frame (wpE (defs₀ (F := F)) 𝒱₀ (c : Thread nD τ) none) Set.univ ((steps n f).bind k) Q)
  | 0, f, Own, Out, T, h, k => by
    rw [show (steps 0 f).bind k = k ⟨⟩ from rfl]
    iintro ⟨-, -, HT⟩ Hk
    iapply Hk
    isplitr
    · rw [Finset.univ_eq_empty, bigSep_empty]; iempintro
    · iexact HT
  | n + 1, f, Own, Out, T, h, k => by
    rw [bigSep_first Own, bigSep_first Out,
      show (steps (n + 1) f).bind k = (f 0).bind fun x => (steps n fun i => f i.succ).bind k from
        Prog.bind_assoc (f 0) (fun _ => steps n fun i => f i.succ) k]
    iintro ⟨#HR, ⟨H0, Hs⟩, HT⟩ Hk
    iapply (h 0 fun x => (steps n fun i => f i.succ).bind k) $$ [H0 HT]
    · isplitr; · iexact HR
      isplitl [H0]; · iexact H0
      rw [show ((0 : Fin (n + 1)).val) = 0 from rfl]
      iexact HT
    rw [show ((0 : Fin (n + 1)).val + 1) = 0 + 1 from rfl]
    iintro ⟨Ho, HT⟩
    iapply (wp_steps c Q R n (fun i => f i.succ) (fun i => Own i.succ) (fun i => Out i.succ) (fun j => T (j + 1)) (fun i k => h i.succ k) k) $$ [Hs HT]
    · isplitr; · iexact HR
      isplitl [Hs]; · iexact Hs
      iexact HT
    iintro ⟨Hos, HT⟩
    iapply Hk
    isplitr [HT]
    · isplitl [Ho]; · iexact Ho
      iexact Hos
    · iexact HT

/-! ## The facts every device keeps: the counters' invariants, and that their round has begun -/

variable (P : Dev nD → Mat F) (K : Dev nD × Key → ℕ)

def records : sProp 𝕄 :=
  iprop((bigSep Finset.univ fun x : Dev nD × Key => cellInv ER (sched P) (K x) (cell x.1 x.2))
    ∗ (bigSep Finset.univ fun x : Dev nD × Key => reached ER (cell x.1 x.2) 0) ∗ levAts L lv)

instance records_persistent : BI.Persistent (records P K) := by unfold records; infer_instance

theorem all_inv (x : Dev nD × Key) :
    (bigSep Finset.univ fun x : Dev nD × Key => (cellInv ER (sched P) (K x) (cell x.1 x.2) : sProp 𝕄)) ⊢ cellInv ER (sched P) (K x) (cell x.1 x.2) :=
  bigSep_elim (Finset.mem_univ x)
omit [FloatOps F] in
theorem all_reached (x : Dev nD × Key) :
    (bigSep Finset.univ fun x : Dev nD × Key => (reached ER (cell x.1 x.2) 0 : sProp 𝕄)) ⊢ reached ER (cell x.1 x.2) 0 :=
  bigSep_elim (Finset.mem_univ x)

theorem records_inv (x : Dev nD × Key) : records P K ⊢ cellInv ER (sched P) (K x) (cell x.1 x.2) := by
  unfold records
  iintro ⟨H, -, -⟩
  iapply (all_inv P K x); iexact H
theorem records_reached (x : Dev nD × Key) : records P K ⊢ reached ER (cell x.1 x.2) 0 := by
  unfold records
  iintro ⟨-, H, -⟩
  iapply (all_reached x); iexact H
theorem records_levels : records P K ⊢ levAts L lv := by
  unfold records
  iintro ⟨-, -, H⟩
  iexact H

set_option maxRecDepth 20000 in
theorem records_copyWait (c : Dev nD) (x : Fin 4 × Fin NP) (O : CellTallies nD τ sig Unit) (hO : Above (rank (some (some x))) O) :
    records P K ⊢ MayWait (c : Thread nD τ) (.dma (copySem x.1 x.2)) () O := by
  have h := mayWait (F := F) c (.dma (copySem x.1 x.2)) (rank (some (some x))) (le_of_eq (congrArg rank (keyOf_place (some x)))) hO
  exact (records_levels P K).trans h
set_option maxRecDepth 20000 in
theorem records_barWait (c : Dev nD) : records P K ⊢ MayWait (c : Thread nD τ) (.reg barS) () (owedPart c 0) := by
  have h1 := above_owedPart c 0 (l := 1) (by decide)
  have h := mayWait (F := F) c (.reg barS) 1 (Nat.le_refl 1) h1
  exact (records_levels P K).trans h

/-- Device `c` owes `O`, whatever it has waited for. -/
def owing (c : Dev nD) (O : CellTallies nD τ sig Unit) : sProp 𝕄 := iprop(∃ W, owes (c : Thread nD τ) O W)

/-! ## One turn of each phase -/

section Turns

variable {α : Type} (c : Dev nD)

/-- What the `e`-th signal takes: its part of the peer's barrier, and the slot and the row block it hands over. -/
def sigOwn (e : Fin NP) : sProp 𝕄 :=
  iprop(dutyTok ER (cell (peer e c) none) 0 (rev e) ∗ (∃ f, slotPts c (rev e) f) ∗ ∃ f, outPts fullShare c (peer e c) f)

theorem sig_duty (e : Fin NP) : rev e ∈ (sched P).duties (cell (peer e c) none) 0 := by
  rw [duties_bar P (peer e c)]; exact Finset.mem_univ _
theorem copy_duty (x : Fin 4 × Fin NP) : (0 : Fin NP) ∈ (sched P).duties (cell c (some x)) 0 := by
  rw [duties_copy]; exact Finset.mem_singleton_self _

theorem sig_turn (Q : α → sProp 𝕄) (e : Fin NP) (k : PUnit → Prog (TpuEff nD τ sig (Elt F) Λ₀ .tc) α) :
    iprop(records P K ∗ sigOwn c e ∗ owing c (owedSig c e.val))
      ⊢ iprop((emp ∗ owing c (owedSig c (e.val + 1)) -∗ wp frame (wpE (defs₀ (F := F)) 𝒱₀ (c : Thread nD τ) none) Set.univ (k ⟨⟩) Q)
        -∗ wp frame (wpE (defs₀ (F := F)) 𝒱₀ (c : Thread nD τ) none) Set.univ ((sigStep c e).bind k) Q) := by
  unfold sigOwn owing
  rw [show (sigStep (F := F) c e).bind k = .op (.semSignal ((⟨sigDev e c, sigDev_lt e c⟩ : Dev nD) : Thread nD τ) barS 1) k from rfl, sigDev_peer]
  iintro ⟨#HR, ⟨Ht, Hs, Ho⟩, ⟨%W, HO⟩⟩ Hk
  iapply (Rounds.wp_signal 𝒱₀ ER (sched P) (c : Thread nD τ) none (dst := (peer e c : Thread nD τ)) (κ := K (peer e c, none))
      (d := rev e) (sig_duty P c e) (amount_bar P (peer e c) (rev e)) ()
      (owedSig c (e.val + 1)) (owedSig_step c e)) $$ [HO Ht Hs Ho]
  · isplitr; · iapply (records_inv P K (peer e c, none)); iexact HR
    isplitl [HO]; · iexact HO
    isplitl [Ht]; · iexact Ht
    isplitl [Hs Ho]
    · rw [show (sched P).payload ((peer e c : Thread nD τ), SemLoc.reg barS) 0 (rev e) = _ from payload_bar P (peer e c) (rev e)]; unfold barPay; rw [peer_rev]
      isplitl [Hs]; · iexact Hs
      iexact Ho
    iapply (records_reached P K (peer e c, none)); iexact HR
  iintro HO
  iapply Hk
  isplitr
  · iempintro
  · iexists W; iexact HO

/-- Waiting for a copy counter's units: what comes with them, and the counter closed at zero. -/
theorem wait_turn (Q : α → sProp 𝕄) (x : Fin 4 × Fin NP) (O : CellTallies nD τ sig Unit) (hO : Above (rank (some (some x))) O)
    {s s' : Shape} {el el' : EltTy} {sp sp' : Space} {sr : Memref sig .tc sp' s' el'} {ds : Memref sig .tc sp s el} {hs : sr.view.WordExact} {hd : ds.view.WordExact}
    (hN : ds.view.dmaCredit = N) {q : DmaSem sig} (hq : SemLoc.dma q = place (some x))
    (k : PUnit → Prog (TpuEff nD τ sig (Elt F) Λ₀ .tc) α) :
    iprop(records P K ∗ (cred (tallyAt (cell c (some x)) () N) ∗ atPos ER (cell c (some x)) 0 ∅ 0) ∗ owing c O)
      ⊢ iprop(((copyPay P c x ∗ semVal (cell c (some x)) 0) ∗ owing c O -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q sr ds hs hd) k) Q) := by
  have hq' : q = copySem x.1 x.2 := SemLoc.dma.inj hq
  subst hq'
  unfold owing
  iintro ⟨#HR, ⟨Hc, Ha⟩, ⟨%W, HO⟩⟩ Hk
  iapply (Rounds.wp_wait_rest_token 𝒱₀ ER (sched P) (c : Thread nD τ) none (κ := K (c, some x))
      (wpE_waitDma2_eq 𝒱₀ (c : Thread nD τ) none Set.univ) (Set.mem_univ _) () (O := O) (W := W) (R := 0) (m := 0) (T := ∅)
      ((Nat.zero_add _).trans (hN.trans (expect_copy P c x).symm))) $$ [Hc HO Ha]
  · isplitr; · iapply (records_inv P K (c, some x)); iexact HR
    isplitl [Hc]; · rw [hN]; iexact Hc
    isplitl [HO]; · iexact HO
    isplitr
    · iapply (records_copyWait P K c x O hO); iexact HR
    iexact Ha
  iintro ⟨HO, Ha, -, Hp⟩
  ihave Hp := (Entails.of_eq (show bigSep ((sched P).duties ((c : Thread nD τ), SemLoc.dma (copySem x.1 x.2)) 0 \ ∅) (fun d => (sched P).payload ((c : Thread nD τ), SemLoc.dma (copySem x.1 x.2)) 0 d) = _ from rest_copy P c x)) $$ Hp
  imod (Rounds.cell_close ER (sched P) (Set.mem_univ (K (c, some x))) (fun h => h) (R := 0 + 1) (duties_later P (cell c (some x)))) $$ [Ha] with Hz
  · isplitr; · iapply (records_inv P K (c, some x)); iexact HR
    iexact Ha
  iapply Hk
  isplitr [HO]
  · isplitl [Hp]; · iexact Hp
    iexact Hz
  · iexists _; iexact HO

/-- What the `e`-th partial's copy takes: its rows, the peer's slot, and the two parts it pays. -/
def partOwn (e : Fin NP) : sProp 𝕄 :=
  iprop(partPts c (peer e c) (P c) ∗ (∃ f, slotPts (peer e c) e f)
    ∗ dutyTok ER (cell c (some (0, e))) 0 0 ∗ dutyTok ER (cell (peer e c) (some (1, e))) 0 0)

theorem part_copy (Q : α → sProp 𝕄) (e : Fin NP) (n : Dev nD) (hn : n = peer e c)
    {hsc : (rSlot e : Memref sig (Dev.tc n : Thread nD τ).2.kind .vmem S64x1024 .bf16).view.ref.isScScratch = false}
    {hs : (pRows c e).view.WordExact} {hd : (rSlot e).view.WordExact}
    {hm : DmaTarget.Typed .vmem (.dma (semAt cc0_scratch3 e)) (.remote (Dev.tc n : Thread nD τ) (rSlot e) (.dma (semAt cc0_scratch2 e)) hsc)}
    (k : PUnit → Prog (TpuEff nD τ sig (Elt F) Λ₀ .tc) α) :
    iprop(records P K ∗ partOwn P c e ∗ owing c (owedPart c e.val))
      ⊢ iprop((cred (tallyAt (cell c (some (0, e))) () N) ∗ owing c (owedPart c (e.val + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (pRows c e) (.remote (Dev.tc n : Thread nD τ) (rSlot e) (.dma (semAt cc0_scratch2 e)) hsc) (.dma (semAt cc0_scratch3 e)) hs hd hm) k) Q) := by
  subst hn
  unfold partOwn owing
  iintro ⟨#HR, ⟨Hp, ⟨%fd, Hs⟩, Ht, Ht'⟩, ⟨%W, HO⟩⟩ Hk
  iapply (Rounds.wp_send_pointsTo 𝒱₀ ER (sched P) (c : Thread nD τ) none (c' := (peer e c : Thread nD τ)) (src := pRows c e) (dst := rSlot e)
      (sS := .dma (semAt cc0_scratch2 e)) (sem := .dma (semAt cc0_scratch3 e)) (κ₁ := K (c, some (0, e))) (κ₂ := K (peer e c, some (1, e)))
      (q := fullShare) (fs := P c) (fd := fd) (r₁ := 0) (r₂ := 0) (d₁ := 0) (d₂ := 0)
      (copy_duty P c (0, e))
      (copy_duty P (peer e c) (1, e))
      () () N rfl (amount_copy P c (0, e) 0) (amount_copy P (peer e c) (1, e) 0) (owedPart c (e.val + 1)) (owedPart_step c e) (W := W)
      (by
        refine Entails.of_eq ?_
        rw [pRows_set]
        exact (payload_copy P c (0, e) 0).symm)
      (by
        refine Entails.of_eq ?_
        rw [rSlot_set]
        refine Eq.trans ?_ (payload_copy P (peer e c) (1, e) 0).symm
        exact pointsTo_congr (sent_slot P c e fd))) $$ [Hp Hs HO Ht Ht']
  · isplitr; · iapply (records_inv P K (c, some (0, e))); iexact HR
    isplitr; · iapply (records_inv P K (peer e c, some (1, e))); iexact HR
    isplitl [Hp]; · rw [pRows_set]; unfold partPts; iexact Hp
    isplitl [Hs]; · rw [rSlot_set]; unfold slotPts; iexact Hs
    isplitl [HO]; · iexact HO
    isplitl [Ht]; · iexact Ht
    isplitr; · iapply (records_reached P K (c, some (0, e))); iexact HR
    isplitl [Ht']; · iexact Ht'
    iapply (records_reached P K (peer e c, some (1, e))); iexact HR
  iintro ⟨Hc, HO⟩
  iapply Hk
  isplitl [Hc]; · iexact Hc
  iexists W; iexact HO

/-- What the `e`-th chunk copy takes: a share of the chunk's rows, the peer's rows, and the two parts it pays. -/
def chunkOwn (e : Fin NP) : sProp 𝕄 :=
  iprop(outPts (share e) c c (result P) ∗ (∃ f, outPts fullShare (peer e c) c f)
    ∗ dutyTok ER (cell c (some (2, e))) 0 0 ∗ dutyTok ER (cell (peer e c) (some (3, e))) 0 0)

theorem chunk_copy (Q : α → sProp 𝕄) (e : Fin NP) (n : Dev nD) (hn : n = peer e c)
    {hsc : (oRows c : Memref sig (Dev.tc n : Thread nD τ).2.kind .vmem S64x1024 .bf16).view.ref.isScScratch = false}
    {hs : (oRows c).view.WordExact} {hd : (oRows c).view.WordExact}
    {hm : DmaTarget.Typed .vmem (.dma (semAt cc0_scratch5 e)) (.remote (Dev.tc n : Thread nD τ) (oRows c) (.dma (semAt cc0_scratch4 e)) hsc)}
    (k : PUnit → Prog (TpuEff nD τ sig (Elt F) Λ₀ .tc) α) :
    iprop(records P K ∗ chunkOwn P c e ∗ owing c (owedChunk c e.val))
      ⊢ iprop((cred (tallyAt (cell c (some (2, e))) () N) ∗ owing c (owedChunk c (e.val + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (oRows c) (.remote (Dev.tc n : Thread nD τ) (oRows c) (.dma (semAt cc0_scratch4 e)) hsc) (.dma (semAt cc0_scratch5 e)) hs hd hm) k) Q) := by
  subst hn
  unfold chunkOwn owing
  iintro ⟨#HR, ⟨Hp, ⟨%fd, Hs⟩, Ht, Ht'⟩, ⟨%W, HO⟩⟩ Hk
  iapply (Rounds.wp_send_pointsTo 𝒱₀ ER (sched P) (c : Thread nD τ) none (c' := (peer e c : Thread nD τ)) (src := oRows c) (dst := oRows c)
      (sS := .dma (semAt cc0_scratch4 e)) (sem := .dma (semAt cc0_scratch5 e)) (κ₁ := K (c, some (2, e))) (κ₂ := K (peer e c, some (3, e)))
      (q := share e) (fs := result P) (fd := fd) (r₁ := 0) (r₂ := 0) (d₁ := 0) (d₂ := 0)
      (copy_duty P c (2, e))
      (copy_duty P (peer e c) (3, e))
      () () N rfl (amount_copy P c (2, e) 0) (amount_copy P (peer e c) (3, e) 0) (owedChunk c (e.val + 1)) (owedChunk_step c e) (W := W)
      (by
        refine Entails.of_eq ?_
        rw [oRows_set]
        exact (payload_copy P c (2, e) 0).symm)
      (by
        refine Entails.of_eq ?_
        rw [oRows_set]
        refine Eq.trans ?_ (payload_copy P (peer e c) (3, e) 0).symm
        show _ = outPts fullShare (peer e c) (src e (peer e c)) (result P)
        rw [src_peer]
        exact pointsTo_congr (sent_rows (result P) c fd))) $$ [Hp Hs HO Ht Ht']
  · isplitr; · iapply (records_inv P K (c, some (2, e))); iexact HR
    isplitr; · iapply (records_inv P K (peer e c, some (3, e))); iexact HR
    isplitl [Hp]; · rw [oRows_set]; unfold outPts; iexact Hp
    isplitl [Hs]; · rw [oRows_set]; unfold outPts; iexact Hs
    isplitl [HO]; · iexact HO
    isplitl [Ht]; · iexact Ht
    isplitr; · iapply (records_reached P K (c, some (2, e))); iexact HR
    isplitl [Ht']; · iexact Ht'
    iapply (records_reached P K (peer e c, some (3, e))); iexact HR
  iintro ⟨Hc, HO⟩
  iapply Hk
  isplitl [Hc]; · iexact Hc
  iexists W; iexact HO

end Turns

/-! ## Every copy is worth the same units, and the counters by their arrays -/

theorem slot_credit (e : Fin NP) : (rSlot e).view.dmaCredit = N := rfl
theorem part_credit (c : Dev nD) (e : Fin NP) : (pRows c e).view.dmaCredit = N := rfl
theorem chunk_credit (c : Dev nD) : (oRows c).view.dmaCredit = N := rfl
theorem use_sem0 (e : Fin NP) : SemLoc.dma (semAt cc0_scratch2 e) = place (some (0, e)) := rfl
theorem use_sem1 (e : Fin NP) : SemLoc.dma (semAt cc0_scratch3 e) = place (some (1, e)) := rfl
theorem use_sem2 (e : Fin NP) : SemLoc.dma (semAt cc0_scratch4 e) = place (some (2, e)) := rfl
theorem use_sem3 (e : Fin NP) : SemLoc.dma (semAt cc0_scratch5 e) = place (some (3, e)) := rfl

/-! ## The phases -/

section Runs

variable {α : Type} (c : Dev nD) (k : PUnit → Prog (TpuEff nD τ sig (Elt F) Λ₀ .tc) α)

theorem run_signals (Q : α → sProp 𝕄) :
    iprop(records P K ∗ bigSep Finset.univ (sigOwn c) ∗ owing c (owed₀ c))
      ⊢ iprop((owing c (owedPart c 0) -∗ wp frame (wpE (defs₀ (F := F)) 𝒱₀ (c : Thread nD τ) none) Set.univ (k ⟨⟩) Q) -∗ wp frame (wpE (defs₀ (F := F)) 𝒱₀ (c : Thread nD τ) none) Set.univ ((steps NP (sigStep c)).bind k) Q) := by
  iintro H Hk
  iapply (wp_steps c Q (records P K) NP (sigStep c) (sigOwn c) (fun _ => iprop(emp)) (fun j => owing c (owedSig c j)) (fun e k => sig_turn P K c Q e k) k) $$ [H]
  · iexact H
  iintro ⟨-, HO⟩
  iapply Hk
  rw [owedSig_end]; iexact HO

theorem run_parts (Q : α → sProp 𝕄) :
    iprop(records P K ∗ bigSep Finset.univ (partOwn P c) ∗ owing c (owedPart c 0))
      ⊢ iprop(((bigSep Finset.univ fun e => cred (tallyAt (cell c (some (0, e))) () N)) ∗ owing c (owedChunk c 0) -∗ wp frame (wpE (defs₀ (F := F)) 𝒱₀ (c : Thread nD τ) none) Set.univ (k ⟨⟩) Q) -∗ wp frame (wpE (defs₀ (F := F)) 𝒱₀ (c : Thread nD τ) none) Set.univ ((steps NP (rsSend c)).bind k) Q) := by
  iintro H Hk
  iapply (wp_steps c Q (records P K) NP (rsSend c) (partOwn P c) (fun e => cred (tallyAt (cell c (some (0, e))) () N)) (fun j => owing c (owedPart c j))
    (fun e k => part_copy P K c Q e _ (rsDev_peer e c) k) k) $$ [H]
  · iexact H
  iintro ⟨Hc, HO⟩
  iapply Hk
  isplitl [Hc]; · iexact Hc
  rw [owedPart_end]; iexact HO

theorem run_chunks (Q : α → sProp 𝕄) :
    iprop(records P K ∗ bigSep Finset.univ (chunkOwn P c) ∗ owing c (owedChunk c 0))
      ⊢ iprop(((bigSep Finset.univ fun e => cred (tallyAt (cell c (some (2, e))) () N)) ∗ owing c 0 -∗ wp frame (wpE (defs₀ (F := F)) 𝒱₀ (c : Thread nD τ) none) Set.univ (k ⟨⟩) Q) -∗ wp frame (wpE (defs₀ (F := F)) 𝒱₀ (c : Thread nD τ) none) Set.univ ((steps NP (agSend c)).bind k) Q) := by
  iintro H Hk
  iapply (wp_steps c Q (records P K) NP (agSend c) (chunkOwn P c) (fun e => cred (tallyAt (cell c (some (2, e))) () N)) (fun j => owing c (owedChunk c j))
    (fun e k => chunk_copy P K c Q e _ (agDev_peer e c) k) k) $$ [H]
  · iexact H
  iintro ⟨Hc, HO⟩
  iapply Hk
  isplitl [Hc]; · iexact Hc
  rw [owedChunk_end]; iexact HO

/-- A waiting phase on the counters of one use. -/
theorem run_waits (Q : α → sProp 𝕄) (j : Fin 4) (f : Fin NP → Prog (TpuEff nD τ sig (Elt F) Λ₀ .tc) PUnit) (O : CellTallies nD τ sig Unit)
    (h : ∀ (e : Fin NP) (k : PUnit → Prog (TpuEff nD τ sig (Elt F) Λ₀ .tc) α),
      iprop(records P K ∗ (cred (tallyAt (cell c (some (j, e))) () N) ∗ atPos ER (cell c (some (j, e))) 0 ∅ 0) ∗ owing c O)
        ⊢ iprop(((copyPay P c (j, e) ∗ semVal (cell c (some (j, e))) 0) ∗ owing c O -∗ wp frame (wpE (defs₀ (F := F)) 𝒱₀ (c : Thread nD τ) none) Set.univ (k ⟨⟩) Q) -∗ wp frame (wpE (defs₀ (F := F)) 𝒱₀ (c : Thread nD τ) none) Set.univ ((f e).bind k) Q)) :
    iprop(records P K ∗ (bigSep Finset.univ fun e => cred (tallyAt (cell c (some (j, e))) () N))
        ∗ (bigSep Finset.univ fun e => atPos ER (cell c (some (j, e))) 0 ∅ 0) ∗ owing c O)
      ⊢ iprop(((bigSep Finset.univ fun e => copyPay P c (j, e)) ∗ (bigSep Finset.univ fun e => semVal (cell c (some (j, e))) 0) ∗ owing c O -∗ wp frame (wpE (defs₀ (F := F)) 𝒱₀ (c : Thread nD τ) none) Set.univ (k ⟨⟩) Q)
        -∗ wp frame (wpE (defs₀ (F := F)) 𝒱₀ (c : Thread nD τ) none) Set.univ ((steps NP f).bind k) Q) := by
  iintro ⟨#HR, Hc, Ha, HO⟩ Hk
  iapply (wp_steps c Q (records P K) NP f (fun e => iprop(cred (tallyAt (cell c (some (j, e))) () N) ∗ atPos ER (cell c (some (j, e))) 0 ∅ 0))
    (fun e => iprop(copyPay P c (j, e) ∗ semVal (cell c (some (j, e))) 0)) (fun _ => owing c O) h k) $$ [Hc Ha HO]
  · isplitr; · iexact HR
    isplitr [HO]
    · rw [bigSep_sep']
      isplitl [Hc]; · iexact Hc
      iexact Ha
    · iexact HO
  rw [bigSep_sep']
  iintro ⟨⟨Hp, Hz⟩, HO⟩
  iapply Hk
  isplitl [Hp]; · iexact Hp
  isplitl [Hz]; · iexact Hz
  iexact HO

theorem run_partWaits (Q : α → sProp 𝕄) :
    iprop(records P K ∗ (bigSep Finset.univ fun e => cred (tallyAt (cell c (some (1, e))) () N))
        ∗ (bigSep Finset.univ fun e => atPos ER (cell c (some (1, e))) 0 ∅ 0) ∗ owing c (owedChunk c 0))
      ⊢ iprop(((bigSep Finset.univ fun e => copyPay P c (1, e)) ∗ (bigSep Finset.univ fun e => semVal (cell c (some (1, e))) 0) ∗ owing c (owedChunk c 0) -∗ wp frame (wpE (defs₀ (F := F)) 𝒱₀ (c : Thread nD τ) none) Set.univ (k ⟨⟩) Q)
        -∗ wp frame (wpE (defs₀ (F := F)) 𝒱₀ (c : Thread nD τ) none) Set.univ ((steps NP (rsWait c)).bind k) Q) :=
  run_waits P K c k Q 1 (rsWait c) (owedChunk c 0) fun e k => wait_turn P K c Q (1, e) (owedChunk c 0) (above_owedChunk c 0 (show 2 < 3 by decide)) (slot_credit e) (use_sem1 e) k

theorem run_chunkWaits (Q : α → sProp 𝕄) :
    iprop(records P K ∗ (bigSep Finset.univ fun e => cred (tallyAt (cell c (some (3, e))) () N))
        ∗ (bigSep Finset.univ fun e => atPos ER (cell c (some (3, e))) 0 ∅ 0) ∗ owing c 0)
      ⊢ iprop(((bigSep Finset.univ fun e => copyPay P c (3, e)) ∗ (bigSep Finset.univ fun e => semVal (cell c (some (3, e))) 0) ∗ owing c 0 -∗ wp frame (wpE (defs₀ (F := F)) 𝒱₀ (c : Thread nD τ) none) Set.univ (k ⟨⟩) Q)
        -∗ wp frame (wpE (defs₀ (F := F)) 𝒱₀ (c : Thread nD τ) none) Set.univ ((steps NP (agWait c)).bind k) Q) :=
  run_waits P K c k Q 3 (agWait c) 0 fun e k => wait_turn P K c Q (3, e) 0 (above_zero _) (chunk_credit c) (use_sem3 e) k

theorem run_partDrain (Q : α → sProp 𝕄) :
    iprop(records P K ∗ (bigSep Finset.univ fun e => cred (tallyAt (cell c (some (0, e))) () N))
        ∗ (bigSep Finset.univ fun e => atPos ER (cell c (some (0, e))) 0 ∅ 0) ∗ owing c 0)
      ⊢ iprop(((bigSep Finset.univ fun e => copyPay P c (0, e)) ∗ (bigSep Finset.univ fun e => semVal (cell c (some (0, e))) 0) ∗ owing c 0 -∗ wp frame (wpE (defs₀ (F := F)) 𝒱₀ (c : Thread nD τ) none) Set.univ (k ⟨⟩) Q)
        -∗ wp frame (wpE (defs₀ (F := F)) 𝒱₀ (c : Thread nD τ) none) Set.univ ((steps NP (rsDrain c)).bind k) Q) :=
  run_waits P K c k Q 0 (rsDrain c) 0 fun e k => wait_turn P K c Q (0, e) 0 (above_zero _) (part_credit c e) (use_sem0 e) k

theorem run_chunkDrain (Q : α → sProp 𝕄) :
    iprop(records P K ∗ (bigSep Finset.univ fun e => cred (tallyAt (cell c (some (2, e))) () N))
        ∗ (bigSep Finset.univ fun e => atPos ER (cell c (some (2, e))) 0 ∅ 0) ∗ owing c 0)
      ⊢ iprop(((bigSep Finset.univ fun e => copyPay P c (2, e)) ∗ (bigSep Finset.univ fun e => semVal (cell c (some (2, e))) 0) ∗ owing c 0 -∗ wp frame (wpE (defs₀ (F := F)) 𝒱₀ (c : Thread nD τ) none) Set.univ (k ⟨⟩) Q)
        -∗ wp frame (wpE (defs₀ (F := F)) 𝒱₀ (c : Thread nD τ) none) Set.univ ((steps NP (agDrain c)).bind k) Q) :=
  run_waits P K c k Q 2 (agDrain c) 0 fun e k => wait_turn P K c Q (2, e) 0 (above_zero _) (chunk_credit c) (use_sem2 e) k

/-- The barrier's wait: what the fifteen peers handed over. -/
theorem run_barrier (Q : α → sProp 𝕄) :
    iprop(records P K ∗ cred (tallyAt (cell c none) () 15) ∗ atPos ER (cell c none) 0 ∅ 0 ∗ owing c (owedPart c 0))
      ⊢ iprop(((bigSep Finset.univ fun e => barPay (F := F) c e) ∗ semVal (cell c none) 0 ∗ owing c (owedPart c 0) -∗ wp frame (wpE (defs₀ (F := F)) 𝒱₀ (c : Thread nD τ) none) Set.univ (k ⟨⟩) Q)
        -∗ wp frame (wpE (defs₀ (F := F)) 𝒱₀ (c : Thread nD τ) none) Set.univ ((semWaitWord barS 15#32).bind k) Q) := by
  unfold owing
  rw [show (semWaitWord barS 15#32 : Prog (TpuEff nD τ sig (Elt F) Λ₀ .tc) PUnit).bind k = .op (.semWait barS 15) k from rfl]
  iintro ⟨#HR, Hc, Ha, ⟨%W, HO⟩⟩ Hk
  iapply (Rounds.wp_wait_rest_token 𝒱₀ ER (sched P) (c : Thread nD τ) none (κ := K (c, none))
      (wpE_semWait_eq 𝒱₀ (c : Thread nD τ) none Set.univ) (Set.mem_univ _) () (O := owedPart c 0) (W := W) (R := 0) (m := 0) (T := ∅)
      ((Nat.zero_add _).trans (expect_bar P c).symm)) $$ [Hc HO Ha]
  · isplitr; · iapply (records_inv P K (c, none)); iexact HR
    isplitl [Hc]; · iexact Hc
    isplitl [HO]; · iexact HO
    isplitr
    · iapply (records_barWait P K c); iexact HR
    iexact Ha
  iintro ⟨HO, Ha, -, Hp⟩
  ihave Hp := (Entails.of_eq (show bigSep ((sched P).duties ((c : Thread nD τ), SemLoc.reg barS) 0 \ ∅) (fun d => (sched P).payload ((c : Thread nD τ), SemLoc.reg barS) 0 d) = _ from rest_bar P c)) $$ Hp
  imod (Rounds.cell_close ER (sched P) (Set.mem_univ (K (c, none))) (fun h => h) (R := 0 + 1) (duties_later P (cell c none))) $$ [Ha] with Hz
  · isplitr; · iapply (records_inv P K (c, none)); iexact HR
    iexact Ha
  iapply Hk
  isplitl [Hp]; · iexact Hp
  isplitl [Hz]; · iexact Hz
  iexists _; iexact HO

end Runs

end Cert.Fused

end
-- ==== Proof.Buffers.lean ====
/-
  The buffers of the launch cut into the pieces the phases pass around: the received partials by slots, a
  1024x1024 buffer by the row blocks of one device and of its peers, a chunk's rows by read shares.
-/
module

public import proofs.«01_k».proof.Proof.Phases

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the devices, by one of them -/

omit [FloatOps F] in
theorem bigSep_opt {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
      ext o; rcases o with _ | a <;> simp,
    bigSep_insert (by simp), bigSep_map]
  rfl

omit [FloatOps F] in
theorem bigSep_peers (c : Dev nD) (Φ : Dev nD → sProp 𝕄) :
    bigSep Finset.univ Φ = iprop(Φ c ∗ bigSep Finset.univ fun e : Fin NP => Φ (peer e c)) := by
  rw [bigSep_univ_equiv (devOf c) Φ, bigSep_opt]
  rfl
omit [FloatOps F] in
theorem bigSep_srcs (c : Dev nD) (Φ : Dev nD → sProp 𝕄) :
    bigSep Finset.univ Φ = iprop(Φ c ∗ bigSep Finset.univ fun e : Fin NP => Φ (src e c)) := by
  rw [bigSep_univ_equiv (devSrc c) Φ, bigSep_opt]
  rfl

omit [FloatOps F] in
theorem bigSep_back {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp [Fin.castSucc_ne_last]), bigSep_map]
  rfl

/-! ## The whole buffers -/

def partAll (c : Dev nD) (f : Mat F) : sProp 𝕄 := ((c : Thread nD τ).loc cc0_scratch0) ↦{fullShare} f
def slotAll (c : Dev nD) (f : Slots F) : sProp 𝕄 := ((c : Thread nD τ).loc cc0_scratch1) ↦{fullShare} f
def outAll (c : Dev nD) (f : Mat F) : sProp 𝕄 := ((c : Thread nD τ).loc cc0_stg2_0) ↦{fullShare} f

omit [FloatOps F] in
theorem pointsTo_cover {ℓ : Loc nD τ sig} {T : Type} [Fintype T] (K : T → Finset (Idx ℓ)) (q : PosShare TreeShare) (f : Buf (Elt F) ℓ)
    (hd : ∀ t t', t ≠ t' → Disjoint (K t) (K t')) (hc : ∀ i, ∃ t, i ∈ K t) :
    (ℓ ↦{q} f : sProp 𝕄) = bigSep Finset.univ fun t => ℓ ↦[K t]{q} f := by
  classical
  rw [← pointsTo_biUnion Finset.univ K fun t _ t' _ h => hd t t' h,
    show Finset.univ.biUnion K = Finset.univ from Finset.eq_univ_iff_forall.mpr fun i => by
      obtain ⟨t, ht⟩ := hc i
      exact Finset.mem_biUnion.mpr ⟨t, Finset.mem_univ _, ht⟩]

omit [FloatOps F] in
theorem slots_split (c : Dev nD) (f : Slots F) : slotAll c f = bigSep Finset.univ fun e : Fin NP => slotPts c e f :=
  pointsTo_cover (ℓ := (c : Thread nD τ).loc cc0_scratch1) slotSet fullShare f (fun _ _ h => slotSet_disjoint h) slotSet_cover
omit [FloatOps F] in
theorem part_blocks (c : Dev nD) (f : Mat F) : partAll c f = bigSep Finset.univ fun j : Dev nD => partPts c j f :=
  pointsTo_cover (ℓ := (c : Thread nD τ).loc cc0_scratch0) rowSet fullShare f (fun _ _ h => rowSet_disjoint h) rowSet_cover
omit [FloatOps F] in
theorem out_blocks (c : Dev nD) (f : Mat F) : outAll c f = bigSep Finset.univ fun j : Dev nD => outPts fullShare c j f :=
  pointsTo_cover (ℓ := (c : Thread nD τ).loc cc0_stg2_0) rowSet fullShare f (fun _ _ h => rowSet_disjoint h) rowSet_cover

omit [FloatOps F] in
theorem part_split (c : Dev nD) (f : Mat F) : partAll c f = iprop(partPts c c f ∗ bigSep Finset.univ fun e : Fin NP => partPts c (peer e c) f) := by
  rw [part_blocks, bigSep_peers c]
omit [FloatOps F] in
theorem out_split (c : Dev nD) (f : Mat F) :
    outAll c f = iprop(outPts fullShare c c f ∗ bigSep Finset.univ fun e : Fin NP => outPts fullShare c (peer e c) f) := by
  rw [out_blocks, bigSep_peers c]
omit [FloatOps F] in
theorem out_split_src (c : Dev nD) (f : Mat F) :
    outAll c f = iprop(outPts fullShare c c f ∗ bigSep Finset.univ fun e : Fin NP => outPts fullShare c (src e c) f) := by
  rw [out_blocks, bigSep_srcs c]

omit [FloatOps F] in
theorem chunk_leaves (c : Dev nD) (f : Mat F) : outPts fullShare c c f = bigSep Finset.univ fun i : Fin (15 + 1) => outPts (leafAt i) c c f := by
  unfold outPts leafAt
  exact ShareLeaves.pointsTo_leaves (ℓ := (c : Thread nD τ).loc cc0_stg2_0) (rowSet c) f 4 fullShare
omit [FloatOps F] in
/-- A chunk's rows, as the fifteen copies' read shares and the one left over. -/
theorem chunk_shares (c : Dev nD) (f : Mat F) :
    outPts fullShare c c f = iprop(outPts spare c c f ∗ bigSep Finset.univ fun e : Fin NP => outPts (share e) c c f) := by
  rw [chunk_leaves, bigSep_back]
  rfl

/-! ## What the signals hand over -/

omit [FloatOps F] in
theorem hand_slots (c : Dev nD) (f : Slots F) : slotAll c f ⊢ bigSep Finset.univ fun e : Fin NP => iprop(∃ g, slotPts c (rev e) g) := by
  rw [slots_split, bigSep_univ_equiv (Function.Involutive.toPerm rev rev_rev) fun e => slotPts c e f]
  refine bigSep_mono fun e _ => ?_
  show slotPts c (rev e) f ⊢ _
  iintro H; iexists f; iexact H
omit [FloatOps F] in
theorem hand_rows (c : Dev nD) (f : Mat F) :
    (bigSep Finset.univ fun e : Fin NP => outPts fullShare c (peer e c) f) ⊢ bigSep Finset.univ fun e : Fin NP => iprop(∃ g, outPts fullShare c (peer e c) g) := by
  refine bigSep_mono fun e _ => ?_
  show outPts fullShare c (peer e c) f ⊢ _
  iintro H; iexists f; iexact H

/-! ## The loads and stores -/

theorem off2 : (![0, 0] : Fin 2 → ℕ) = fun _ => 0 := funext fun a => by fin_cases a <;> rfl
theorem off3 : (![0, 0, 0] : Fin 3 → ℕ) = fun _ => 0 := funext fun a => by fin_cases a <;> rfl

omit [FloatOps F] in
theorem load_a (f : (cc0_stg0_0 : Ref sig .tc).ty.Contents (Elt F)) : aM.view.readAt (Elt F) aR.toLoadRect f = f := Memref.readAt_unit_zero (Elt F) cc0_stg0_0 off2 _ f
omit [FloatOps F] in
theorem load_b (f : (cc0_stg1_0 : Ref sig .tc).ty.Contents (Elt F)) : bM.view.readAt (Elt F) bR.toLoadRect f = f := Memref.readAt_unit_zero (Elt F) cc0_stg1_0 off2 _ f
omit [FloatOps F] in
theorem load_r (f : Slots F) : rM.view.readAt (Elt F) sR.toLoadRect f = f := Memref.readAt_unit_zero (Elt F) cc0_scratch1 off3 _ f
omit [FloatOps F] in
theorem store_p (f w : Mat F) : (pM.access mR : View sig .tc _ _ _).write (Elt F) f w Finset.univ = w := Memref.write_access_unit_zero_univ (Elt F) cc0_scratch0 off2 _ f w

theorem own_sub (c : Dev nD) : pM.view.setOn (cR c).toLoadRect.set ⊆ rowSet c := by
  intro i hi
  obtain ⟨x, hx, rfl⟩ := Finset.mem_map.mp hi
  rw [← cR_set c]
  exact hx
theorem own_out (c : Dev nD) : oM.view.setOn (cR c).toLoadRect.set ⊆ rowSet c := own_sub c
theorem own_store (c : Dev nD) : (oM.access (cR c) : View sig .tc _ _ _).setOn Finset.univ ⊆ rowSet c :=
  le_of_eq (map_rowIx (cR_emb c))

end Cert.Fused

end
-- ==== Proof.Body.lean ====
/-
  The body on one device, phase after phase: from its pieces of the counters' ledger, its two operand blocks
  and its buffers, to the result in its whole result buffer and every counter at zero.
-/
module

public import proofs.«01_k».proof.Proof.Buffers

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Mat F) (K : Dev nD × Key → ℕ) (c : Dev nD)

/-- Device `c` before round 0 of each of its counters. -/
def atStart : sProp 𝕄 :=
  iprop(atPos ER (cell c none) 0 ∅ 0
    ∗ (bigSep Finset.univ fun e : Fin NP => atPos ER (cell c (some (0, e))) 0 ∅ 0)
    ∗ (bigSep Finset.univ fun e : Fin NP => atPos ER (cell c (some (1, e))) 0 ∅ 0)
    ∗ (bigSep Finset.univ fun e : Fin NP => atPos ER (cell c (some (2, e))) 0 ∅ 0)
    ∗ (bigSep Finset.univ fun e : Fin NP => atPos ER (cell c (some (3, e))) 0 ∅ 0))
/-- The parts device `c` pays: its peers' barriers', its copies' own and landing counters'. -/
def payToks : sProp 𝕄 :=
  iprop((bigSep Finset.univ fun e : Fin NP => dutyTok ER (cell (peer e c) none) 0 (rev e))
    ∗ (bigSep Finset.univ fun e : Fin NP => dutyTok ER (cell c (some (0, e))) 0 0)
    ∗ (bigSep Finset.univ fun e : Fin NP => dutyTok ER (cell (peer e c) (some (1, e))) 0 0)
    ∗ (bigSep Finset.univ fun e : Fin NP => dutyTok ER (cell c (some (2, e))) 0 0)
    ∗ (bigSep Finset.univ fun e : Fin NP => dutyTok ER (cell (peer e c) (some (3, e))) 0 0))
/-- The units device `c` will wait for that its peers owe it. -/
def credits : sProp 𝕄 :=
  iprop(cred (tallyAt (cell c none) () 15)
    ∗ (bigSep Finset.univ fun e : Fin NP => cred (tallyAt (cell c (some (1, e))) () N))
    ∗ (bigSep Finset.univ fun e : Fin NP => cred (tallyAt (cell c (some (3, e))) () N)))
/-- Device `c`'s counters at zero. -/
def zeros : sProp 𝕄 :=
  iprop(semVal (cell c none) 0
    ∗ (bigSep Finset.univ fun e : Fin NP => semVal (cell c (some (0, e))) 0)
    ∗ (bigSep Finset.univ fun e : Fin NP => semVal (cell c (some (1, e))) 0)
    ∗ (bigSep Finset.univ fun e : Fin NP => semVal (cell c (some (2, e))) 0)
    ∗ (bigSep Finset.univ fun e : Fin NP => semVal (cell c (some (3, e))) 0))

def aPts (A : (cc0_stg0_0 : Ref sig .tc).ty.Contents (Elt F)) : sProp 𝕄 := ((c : Thread nD τ).loc cc0_stg0_0) ↦{fullShare} A
def bPts (B : (cc0_stg1_0 : Ref sig .tc).ty.Contents (Elt F)) : sProp 𝕄 := ((c : Thread nD τ).loc cc0_stg1_0) ↦{fullShare} B

/-- The own rows as stored, cut into the read shares. -/
theorem own_written (f : Mat F) :
    ((oM.access (cR c) : View sig .tc _ _ _).loc (c : Thread nD τ) ↦[rowSet c]{fullShare}
        (oM.access (cR c) : View sig .tc _ _ _).write (Elt F) f (k0_pay2 (rowsOf (P c) c) (recvd P c)) Finset.univ : sProp 𝕄)
      = iprop(outPts spare c c (result P) ∗ bigSep Finset.univ fun e : Fin NP => outPts (share e) c c (result P)) :=
  (pointsTo_congr (store_rows P c f)).trans (chunk_shares c (result P))

set_option maxHeartbeats 1600000 in
theorem body_runs (A : (cc0_stg0_0 : Ref sig .tc).ty.Contents (Elt F)) (B : (cc0_stg1_0 : Ref sig .tc).ty.Contents (Elt F))
    (hP : P c = k0_pay1 A B) (fo : Mat F) (fp : Mat F) (fr : Slots F) (Kt : PUnit → sProp 𝕄) :
    iprop(records P K ∗ atStart c ∗ payToks c ∗ credits c ∗ owing c (owed₀ c) ∗ aPts c A ∗ bPts c B ∗ outAll c fo ∗ partAll c fp ∗ slotAll c fr)
      ⊢ iprop((zeros c ∗ owing c 0 ∗ aPts c A ∗ bPts c B ∗ outAll c (result P) ∗ partAll c (P c) ∗ slotAll c (recvd P c) -∗ Kt ⟨⟩)
        -∗ wp frame (wpE (defs₀ (F := F)) 𝒱₀ (c : Thread nD τ) none) Set.univ (bodyAt c) Kt) := by
  unfold bodyAt
  rw [show steps NP (agDrain (F := F) c) = (steps NP (agDrain c)).bind .ret from (Prog.bind_pure _).symm]
  unfold atStart payToks credits zeros
  iintro ⟨#HR, ⟨HaB, Ha0, Ha1, Ha2, Ha3⟩, ⟨HtB, Ht0, Ht1, Ht2, Ht3⟩, ⟨HcB, Hc1, Hc3⟩, HO, HA, HB, Hout, Hpart, Hslot⟩ Hk
  -- the signals hand over the slots and the peers' rows
  ihave Hout := (Entails.of_eq (out_split c fo)) $$ Hout
  icases Hout with ⟨Hown, Hout⟩
  ihave Hout := (hand_rows c fo) $$ Hout
  ihave Hslot := (hand_slots c fr) $$ Hslot
  iapply (run_signals P K c _ Kt) $$ [HtB Hout Hslot HO]
  · isplitr; · iexact HR
    isplitr [HO]
    · unfold sigOwn
      rw [bigSep_sep', bigSep_sep']
      isplitl [HtB]; · iexact HtB
      isplitl [Hslot]; · iexact Hslot
      iexact Hout
    · iexact HO
  iintro HO
  -- the partial product
  unfold aPts bPts partAll
  iapply (wp_load 𝒱₀ (c : Thread nD τ) none Set.univ (m := aM) (Finset.subset_univ _)) $$ HA; iintro HA
  rw [load_a]
  iapply (wp_load 𝒱₀ (c : Thread nD τ) none Set.univ (m := bM) (Finset.subset_univ _)) $$ HB; iintro HB
  rw [load_b]
  iapply (wp_load 𝒱₀ (c : Thread nD τ) none Set.univ (m := pM) (Finset.subset_univ _)) $$ Hpart; iintro Hpart
  iapply (wp_store 𝒱₀ (c : Thread nD τ) none Set.univ (m := pM) (r := mR) (Mk := Finset.univ) (Finset.subset_univ _)) $$ Hpart; iintro Hpart
  rw [store_p, ← hP]
  -- the barrier's wait
  iapply (run_barrier P K c _ Kt) $$ [HcB HaB HO]
  · isplitr; · iexact HR
    isplitl [HcB]; · iexact HcB
    isplitl [HaB]; · iexact HaB
    iexact HO
  unfold barPay
  rw [bigSep_sep']
  iintro ⟨⟨Hslot, Hrows⟩, HzB, HO⟩
  -- the partials' copies
  ihave Hpart := (Entails.of_eq (part_split c (P c))) $$ [Hpart]
  · unfold partAll; iexact Hpart
  icases Hpart with ⟨HownP, Hpart⟩
  iapply (run_parts P K c _ Kt) $$ [Hpart Hslot Ht0 Ht1 HO]
  · isplitr; · iexact HR
    isplitr [HO]
    · unfold partOwn
      rw [bigSep_sep', bigSep_sep', bigSep_sep']
      isplitl [Hpart]; · iexact Hpart
      isplitl [Hslot]; · iexact Hslot
      isplitl [Ht0]; · iexact Ht0
      iexact Ht1
    · iexact HO
  iintro ⟨Hc0, HO⟩
  -- the received partials
  iapply (run_partWaits P K c _ Kt) $$ [Hc1 Ha1 HO]
  · isplitr; · iexact HR
    isplitl [Hc1]; · iexact Hc1
    isplitl [Ha1]; · iexact Ha1
    iexact HO
  iintro ⟨Hslot, Hz1, HO⟩
  ihave Hslot := (Entails.of_eq (slots_split c (recvd P c)).symm) $$ [Hslot]
  · unfold copyPay; iexact Hslot
  -- the chunk
  unfold partPts
  iapply (wp_load 𝒱₀ (c : Thread nD τ) none Set.univ (m := pM) (own_sub c)) $$ HownP; iintro HownP
  rw [load_rows]
  unfold slotAll
  iapply (wp_load 𝒱₀ (c : Thread nD τ) none Set.univ (m := rM) (Finset.subset_univ _)) $$ Hslot; iintro Hslot
  rw [load_r]
  unfold outPts
  iapply (wp_load 𝒱₀ (c : Thread nD τ) none Set.univ (m := oM) (own_out c)) $$ Hown; iintro Hown
  iapply (wp_store 𝒱₀ (c : Thread nD τ) none Set.univ (m := oM) (r := cR c) (Mk := Finset.univ) (own_store c)) $$ Hown; iintro Hown
  ihave Hown := (Entails.of_eq (own_written P c fo)) $$ Hown
  icases Hown with ⟨Hspare, Hown⟩
  -- the chunk's copies
  iapply (run_chunks P K c _ Kt) $$ [Hown Hrows Ht2 Ht3 HO]
  · isplitr; · iexact HR
    isplitr [HO]
    · unfold chunkOwn outPts
      rw [bigSep_sep', bigSep_sep', bigSep_sep']
      isplitl [Hown]; · iexact Hown
      isplitl [Hrows]; · iexact Hrows
      isplitl [Ht2]; · iexact Ht2
      iexact Ht3
    · iexact HO
  iintro ⟨Hc2, HO⟩
  -- the other chunks, and the copies' own counters
  iapply (run_chunkWaits P K c _ Kt) $$ [Hc3 Ha3 HO]
  · isplitr; · iexact HR
    isplitl [Hc3]; · iexact Hc3
    isplitl [Ha3]; · iexact Ha3
    iexact HO
  iintro ⟨Hrows, Hz3, HO⟩
  iapply (run_partDrain P K c _ Kt) $$ [Hc0 Ha0 HO]
  · isplitr; · iexact HR
    isplitl [Hc0]; · iexact Hc0
    isplitl [Ha0]; · iexact Ha0
    iexact HO
  iintro ⟨Hpart, Hz0, HO⟩
  iapply (run_chunkDrain P K c _ Kt) $$ [Hc2 Ha2 HO]
  · isplitr; · iexact HR
    isplitl [Hc2]; · iexact Hc2
    isplitl [Ha2]; · iexact Ha2
    iexact HO
  iintro ⟨Hown, Hz2, HO⟩
  rw [wp_ret]; imodintro
  iapply Hk
  isplitl [HzB Hz0 Hz1 Hz2 Hz3]
  · isplitl [HzB]; · iexact HzB
    isplitl [Hz0]; · iexact Hz0
    isplitl [Hz1]; · iexact Hz1
    isplitl [Hz2]; · iexact Hz2
    iexact Hz3
  isplitl [HO]; · iexact HO
  isplitl [HA]; · iexact HA
  isplitl [HB]; · iexact HB
  isplitl [Hspare Hown Hrows]
  · rw [out_split_src, chunk_shares]
    isplitl [Hspare Hown]
    · isplitl [Hspare]; · iexact Hspare
      unfold copyPay; iexact Hown
    · unfold copyPay; iexact Hrows
  isplitl [HownP Hpart]
  · rw [show (((c : Thread nD τ).loc cc0_scratch0) ↦{fullShare} (P c) : sProp 𝕄) = partAll c (P c) from rfl, part_split]
    isplitl [HownP]; · unfold partPts; iexact HownP
    unfold copyPay; iexact Hpart
  iexact Hslot

end Cert.Fused

end
-- ==== Proof.Ledger.lean ====
/-
  The counters' ledger at the launch: minted per device, the parts dealt to the devices that pay them, the
  invariants allocated for all devices at once.
-/
module

public import proofs.«01_k».proof.Proof.Body
public import Idealize.ShloMosaic.Lib.Pipeline.Launch

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Mat F)

/-- The kernel's own counters: the four for each peer number. -/
def osem (x : Fin 4 × Fin NP) : SemLoc sig := .dma (copySem x.1 x.2)

def allCells : Finset (GSem nD τ sig) := Finset.univ.map ⟨fun x : Dev nD × Key => cell x.1 x.2, fun _ _ h => Prod.ext (cell_inj h).1 (cell_inj h).2⟩

/-- A part: of the barrier by the paying peer's number, or a copy counter's only one. -/
def partAt (x : Dev nD × (Fin NP ⊕ Fin 4 × Fin NP)) : GSem nD τ sig × ℕ × Fin NP :=
  match x.2 with
  | .inl d => (cell x.1 none, 0, d)
  | .inr y => (cell x.1 (some y), 0, 0)
theorem partAt_injective : Function.Injective partAt := by
  rintro ⟨c, d | y⟩ ⟨c', d' | y'⟩ h
  · have h1 := cell_inj (congrArg Prod.fst h)
    have h2 : d = d' := congrArg (fun z : GSem nD τ sig × ℕ × Fin NP => z.2.2) h
    have h3 : c = c' := h1.1
    rw [h3, h2]
  · exact absurd (cell_inj (congrArg Prod.fst h)).2 (by simp)
  · exact absurd (cell_inj (congrArg Prod.fst h)).2 (by simp)
  · have h1 := cell_inj (congrArg Prod.fst h)
    have h3 : c = c' := h1.1
    rw [h3, Option.some.inj h1.2]
def allParts : Finset (GSem nD τ sig × ℕ × Fin NP) := Finset.univ.map ⟨partAt, partAt_injective⟩

def u₀ : UU := (initOf (Pipeline.cells cfgs cellOf_inj) (Pipeline.launchToks cfgs cellOf_inj), initOf allCells allParts)

/-- The parts of device `c`'s own counters. -/
def ownToks (c : Dev nD) : sProp 𝕄 :=
  iprop((bigSep Finset.univ fun d : Fin NP => dutyTok ER (cell c none) 0 d)
    ∗ bigSep Finset.univ fun y : Fin 4 × Fin NP => dutyTok ER (cell c (some y)) 0 0)

/-- What the launch deals device `c`, and what the allocation makes of it. -/
def dealt (c : Dev nD) : sProp 𝕄 :=
  iprop((bigSep Finset.univ fun k : Key => roundState ER (sched P) (cell c k) 0)
    ∗ (bigSep Finset.univ fun k : Key => atPos ER (cell c k) 0 ∅ 0) ∗ (bigSep Finset.univ fun k : Key => reached ER (cell c k) 0) ∗ ownToks c)
def kept (c : Dev nD) : sProp 𝕄 :=
  iprop(∃ K : Dev nD × Key → ℕ, (bigSep Finset.univ fun x : Dev nD × Key => cellInv ER (sched P) (K x) (cell x.1 x.2))
    ∗ (bigSep Finset.univ fun x : Dev nD × Key => reached ER (cell x.1 x.2) 0) ∗ atStart c ∗ payToks c)

theorem fund_all : BI.own (ER (initOf allCells allParts)) ⊢ (|==> bigSep Finset.univ (dealt P) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allParts (fun x => (dutyTok ER x.1 x.2.1 x.2.2 : sProp 𝕄)) = bigSep Finset.univ fun c : Dev nD => ownToks c := by
    unfold allParts; rw [bigSep_map, bigSep_univ_prod]
    exact bigSep_congr fun c _ => by unfold ownToks; rw [bigSep_univ_sum]; rfl
  iintro HX
  imod (Rounds.fund ER (sched P) allCells allParts) $$ HX with ⟨Hst, Hr, Hat, Htok⟩
  imodintro
  ihave Hst := (Entails.of_eq (hX fun g => roundState ER (sched P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-! ## The counters' values -/

omit [FloatOps F] in
theorem bigSep_uses (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A family over one device's counters: the barrier, and the fifteen of each use. -/
theorem bigSep_keys (Φ : Key → sProp 𝕄) :
    bigSep Finset.univ Φ = iprop(Φ none ∗ (bigSep Finset.univ fun e : Fin NP => Φ (some (0, e))) ∗ (bigSep Finset.univ fun e : Fin NP => Φ (some (1, e)))
      ∗ (bigSep Finset.univ fun e : Fin NP => Φ (some (2, e))) ∗ (bigSep Finset.univ fun e : Fin NP => Φ (some (3, e)))) := by
  rw [bigSep_opt, bigSep_univ_prod, bigSep_uses]

omit [FloatOps F] in
theorem unscopedSems0_eq (c : Dev nD) : (unscopedSems0 c : sProp 𝕄) = semVal (cell c none) 0 := by
  unfold unscopedSems0; rw [bigSep_eq_bigSepL_of_eq [SemLoc.reg barS] (by decide) (by decide)]; rfl

omit [FloatOps F] in
theorem sems_eq (c : Dev nD) :
    iprop(unscopedSems0 c ∗ Pipeline.ownSems0 (Ix := Unit) (Name := ℕ) (U := UU) (Lvl := ℕ) (Val := Elt F) (τ := τ) osem c)
      = (bigSep Finset.univ fun k : Key => semVal (cell c k) 0 : sProp 𝕄) := by
  rw [unscopedSems0_eq, bigSep_opt]; rfl
omit [FloatOps F] in
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [sems_eq, bigSep_keys]; rfl

/-! ## The invariants -/

theorem core_alloc (c : Dev nD) :
    iprop(Pipeline.ownSems0 (Ix := Unit) (Name := ℕ) (U := UU) (Lvl := ℕ) (Val := Elt F) (τ := τ) osem c ∗ unscopedSems0 c ∗ dealt P c)
      ⊢ |={Set.univ}=> iprop((bigSep Finset.univ fun k => iprop(∃ κ : ℕ, cellInv ER (sched P) κ (cell c k)))
          ∗ (bigSep Finset.univ fun k : Key => atPos ER (cell c k) 0 ∅ 0) ∗ (bigSep Finset.univ fun k : Key => reached ER (cell c k) 0) ∗ ownToks c) := by
  unfold dealt
  iintro ⟨Hos, Hus, Hst, Hat, Hr, Htok⟩
  ihave Hv := (Entails.of_eq (sems_eq (F := F) c)) $$ [Hos Hus]
  · isplitl [Hus] <;> iassumption
  imod (show iprop((bigSep Finset.univ fun k : Key => semVal (cell c k) 0) ∗ bigSep Finset.univ fun k : Key => roundState ER (sched P) (cell c k) 0)
      ⊢ (|={Set.univ}=> bigSep Finset.univ fun k => iprop(∃ κ : ℕ, cellInv ER (sched P) κ (cell c k)) : sProp 𝕄) from by
        rw [← bigSep_sep']
        exact (bigSep_mono fun k _ => (Rounds.body_intro ER (sched P) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

omit [FloatOps F] in
/-- A family over devices and peer numbers, dealt along a bijection. -/
theorem bigSep_deal (E : Dev nD × Fin NP ≃ Dev nD × Fin NP) (Φ : Dev nD × Fin NP → sProp 𝕄) :
    (bigSep Finset.univ fun c : Dev nD => bigSep Finset.univ fun e : Fin NP => Φ (c, e))
      = bigSep Finset.univ fun c : Dev nD => bigSep Finset.univ fun e : Fin NP => Φ (E (c, e)) := by
  rw [← bigSep_univ_prod, bigSep_univ_equiv E, bigSep_univ_prod]

omit [FloatOps F] in
/-- Every part goes to the device that pays it. -/
theorem deal_parts : (bigSep Finset.univ fun c : Dev nD => (ownToks c : sProp 𝕄)) = bigSep Finset.univ fun c : Dev nD => payToks c := by
  unfold ownToks payToks
  simp only [bigSep_univ_prod (fun y : Fin 4 × Fin NP => (dutyTok ER (cell _ (some y)) 0 0 : sProp 𝕄)), bigSep_uses, bigSep_sep']
  rw [bigSep_deal swapE fun x => (dutyTok ER (cell x.1 none) 0 x.2 : sProp 𝕄),
    bigSep_deal sendE fun x => (dutyTok ER (cell x.1 (some (1, x.2))) 0 0 : sProp 𝕄),
    bigSep_deal sendE fun x => (dutyTok ER (cell x.1 (some (3, x.2))) 0 0 : sProp 𝕄)]
  rfl

theorem kept_intro (K : Dev nD × Key → ℕ) (c : Dev nD) :
    iprop(((bigSep Finset.univ fun x : Dev nD × Key => cellInv ER (sched P) (K x) (cell x.1 x.2))
        ∗ (bigSep Finset.univ fun x : Dev nD × Key => reached ER (cell x.1 x.2) 0)) ∗ (bigSep Finset.univ fun k : Key => atPos ER (cell c k) 0 ∅ 0) ∗ payToks c)
      ⊢ kept P c := by
  unfold kept atStart
  rw [bigSep_keys fun k : Key => (atPos ER (cell c k) 0 ∅ 0 : sProp 𝕄)]
  iintro ⟨⟨HI, HR⟩, Ha, Ht⟩
  iexists K
  isplitl [HI]; · iexact HI
  isplitl [HR]; · iexact HR
  isplitl [Ha]; · iexact Ha
  iexact Ht

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched P) κ (cell c k)))
          ∗ (bigSep Finset.univ fun k : Key => atPos ER (cell c k) 0 ∅ 0) ∗ (bigSep Finset.univ fun k : Key => reached ER (cell c k) 0) ∗ ownToks c) : sProp 𝕄)
      ⊢ bigSep Finset.univ (kept P) := by
  rw [bigSep_sep', bigSep_sep', bigSep_sep', deal_parts,
    ← bigSep_univ_prod (fun x : Dev nD × Key => iprop(∃ κ : ℕ, cellInv ER (sched P) κ (cell x.1 x.2))),
    ← bigSep_univ_prod (fun x : Dev nD × Key => (reached ER (cell x.1 x.2) 0 : sProp 𝕄))]
  iintro ⟨HI, Hat, #HR, Htok⟩
  ihave HK := (BI.bigSep_exists_pi Finset.univ (fun (x : Dev nD × Key) (κ : ℕ) => (cellInv ER (sched P) κ (cell x.1 x.2) : sProp 𝕄))) $$ HI
  icases HK with ⟨%K, #HI⟩
  iapply (bigSep_beside fun c _ => kept_intro P K c)
  isplitr
  · isplitl; · iexact HI
    iexact HR
  · rw [bigSep_sep']
    isplitl [Hat]; · iexact Hat
    iexact Htok

/-- All devices' counters at once. -/
theorem glob : (bigSep Finset.univ fun c => iprop(Pipeline.ownSems0 (Ix := Unit) (Name := ℕ) (U := UU) (Lvl := ℕ) (Val := Elt F) (τ := τ) osem c ∗ unscopedSems0 c ∗ dealt P c) : sProp 𝕄)
    ⊢ |={Set.univ}=> bigSep Finset.univ (kept P) :=
  ((bigSep_mono fun c _ => core_alloc P c).trans (bigSep_fupd _ _)).trans (BI.fupd_mono (regroup P))

end Cert.Fused

end
-- ==== Proof.Credits.lean ====
/-
  The units promised to each counter at the launch: what all devices together owe it.
-/
module

public import proofs.«01_k».proof.Proof.Ledger

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Of units owed each peer `e` at its counter `κ e`, a counter with key `k` is owed those of the peer numbers whose key is its own. -/
theorem owed_at (κ : Fin NP → Key) (n : ℕ) (c : Dev nD) (k : Key) :
    (∑ d : Dev nD, owedFrom (fun e => tallyAt (cell (peer e d) (κ e)) () n) 0 (cell c k) ()) = ∑ e : Fin NP, if k = κ e then n else 0 := by
  have h1 : ∀ d : Dev nD, owedFrom (fun e => (tallyAt (cell (peer e d) (κ e)) () n : CellTallies nD τ sig Unit)) 0 (cell c k) ()
      = ∑ e : Fin NP, if c = peer e d ∧ k = κ e then n else 0 := fun d => by
    rw [owedFrom_zero, Finset.sum_apply, Finsupp.finset_sum_apply]
    refine Finset.sum_congr rfl fun e _ => ?_
    rw [tallyAt_apply]
    by_cases h : c = peer e d ∧ k = κ e
    · rw [if_pos h, if_pos ⟨by rw [h.1, h.2], rfl⟩]
    · rw [if_neg h, if_neg fun h' => h (cell_inj h'.1)]
  rw [Finset.sum_congr rfl fun d _ => h1 d, Finset.sum_comm]
  refine Finset.sum_congr rfl fun e _ => ?_
  rw [Finset.sum_eq_single (src e c)]
  · rw [peer_src]
    exact if_congr (and_iff_right rfl) rfl rfl
  · intro d _ hd
    exact if_neg fun h => hd (by rw [h.1, src_peer])
  · exact fun h => absurd (Finset.mem_univ _) h

theorem owed_sum (c : Dev nD) (k : Key) :
    (∑ d : Dev nD, owed₀ d (cell c k) ()) = ((∑ e : Fin NP, if k = some (1, e) then N else 0) + ∑ e : Fin NP, if k = some (3, e) then N else 0)
      + ∑ e : Fin NP, if k = none then 1 else 0 := by
  rw [← owed_at (fun e => some (1, e)) N c k, ← owed_at (fun e => some (3, e)) N c k, ← owed_at (fun _ => none) 1 c k,
    ← Finset.sum_add_distrib, ← Finset.sum_add_distrib]
  rfl

theorem launch_tally (c : Dev nD) (k : Key) {n : ℕ} (h : (∑ d : Dev nD, owed₀ d (cell c k) ()) = n) :
    tallyOn (cell c k) (launchCredit (Pipeline.owing owed₀) 0 (cell c k)) = (tallyAt (cell c k) () n : CellTallies nD τ sig Unit) := by
  unfold tallyAt
  refine congrArg _ (Finsupp.ext fun u => ?_)
  cases u
  rw [Pipeline.launchCredit_owing, Finsupp.single_eq_same, h]

theorem launch_bar (c : Dev nD) : tallyOn (cell c none) (launchCredit (Pipeline.owing owed₀) 0 (cell c none)) = (tallyAt (cell c none) () 15 : CellTallies nD τ sig Unit) :=
  launch_tally c none (by rw [owed_sum]; simp)
theorem launch_part (c : Dev nD) (e : Fin NP) :
    tallyOn (cell c (some (1, e))) (launchCredit (Pipeline.owing owed₀) 0 (cell c (some (1, e)))) = (tallyAt (cell c (some (1, e))) () N : CellTallies nD τ sig Unit) :=
  launch_tally c _ (by rw [owed_sum]; generalize N = n; simp)
theorem launch_chunk (c : Dev nD) (e : Fin NP) :
    tallyOn (cell c (some (3, e))) (launchCredit (Pipeline.owing owed₀) 0 (cell c (some (3, e)))) = (tallyAt (cell c (some (3, e))) () N : CellTallies nD τ sig Unit) :=
  launch_tally c _ (by rw [owed_sum]; generalize N = n; simp)

omit [FloatOps F] in
theorem creds (c : Dev nD) : (Pipeline.launchCred owed₀ c : sProp 𝕄) ⊢ credits c := by
  unfold Pipeline.launchCred credits
  refine (bigSep_subset (Finset.subset_univ (Finset.univ.map (⟨place, place_injective⟩ : Key ↪ SemLoc sig)))).trans ?_
  rw [bigSep_map, bigSep_keys]
  show iprop(cred (tallyOn (cell c none) (launchCredit (Pipeline.owing owed₀) 0 (cell c none)))
      ∗ (bigSep Finset.univ fun e : Fin NP => cred (tallyOn (cell c (some (0, e))) (launchCredit (Pipeline.owing owed₀) 0 (cell c (some (0, e))))))
      ∗ (bigSep Finset.univ fun e : Fin NP => cred (tallyOn (cell c (some (1, e))) (launchCredit (Pipeline.owing owed₀) 0 (cell c (some (1, e))))))
      ∗ (bigSep Finset.univ fun e : Fin NP => cred (tallyOn (cell c (some (2, e))) (launchCredit (Pipeline.owing owed₀) 0 (cell c (some (2, e))))))
      ∗ (bigSep Finset.univ fun e : Fin NP => cred (tallyOn (cell c (some (3, e))) (launchCredit (Pipeline.owing owed₀) 0 (cell c (some (3, e))))))) ⊢ _
  simp only [launch_bar, launch_part, launch_chunk]
  iintro ⟨HB, -, H1, -, H3⟩
  isplitl [HB]; · iexact HB
  isplitl [H1]; · iexact H1
  iexact H3

end Cert.Fused

end
-- ==== Proof.Launch.lean ====
/-
  The launch: each device's staged arguments, the body's obligation, and the run of the whole program over
  any float values.
-/
module

public import proofs.«01_k».proof.Proof.Credits
public import proofs.«01_k».proof.Proof.Gen.KernelIdeal.Frame
public import Idealize.ShloMosaic.Lib.Pipeline.Launch
public import Idealize.ShloMosaic.Lib.Quiescent
public import Idealize.ShloMosaic.Lib.Pipeline.CollectiveSegs

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def start₀ : MemSt nD τ sig (Elt F) := ⟨m, fun _ => 0, ρ⟩

/-! ## What each device holds -/

/-- Device `c`'s columns of the first matrix, and its rows of the second, as staged. -/
def aIn (c : Dev nD) : (cc0_stg0_0 : Ref sig .tc).ty.Contents (Elt F) :=
  (win0_0.blk (0 : Fin 1)).view.read (Elt F) (m ((c : Thread nD τ).loc main_arg0))
def bIn (c : Dev nD) : (cc0_stg1_0 : Ref sig .tc).ty.Contents (Elt F) :=
  (win0_1.blk (0 : Fin 1)).view.read (Elt F) (m ((c : Thread nD τ).loc main_arg1))

/-- Device `c`'s partial product. -/
def part (c : Dev nD) : Mat F := k0_pay1 (aIn m c) (bIn m c)

def start (c : Dev nD) : sProp 𝕄 :=
  iprop((∃ K, records (part m) K ∗ atStart c ∗ payToks c) ∗ credits c)
def before₀ (c : Dev nD) : sProp 𝕄 := iprop(start m c ∗ (∃ f, partAll c f) ∗ ∃ f, slotAll c f)
def after₀ (c : Dev nD) : sProp 𝕄 := iprop(zeros c ∗ (∃ f, partAll (F := F) c f) ∗ ∃ f, slotAll (F := F) c f)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => aIn m c
    | ⟨1, _⟩ => bIn m c
    | ⟨2, _⟩ => result (part m)
  Φ t := match t with
    | ⟨0, _⟩ => before₀ m c
    | ⟨_ + 1, _⟩ => after₀ c
  q _ := fullShare
  owed t := match t with
    | ⟨0, _⟩ => owed₀ c
    | ⟨_ + 1, _⟩ => 0

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyBefore (c : Dev nD) : sProp 𝕄 :=
  iprop(before₀ m c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))

def bodyAfter (c : Dev nD) : sProp 𝕄 :=
  iprop(after₀ c ∗ (dats m ρ 0 c).owesAt () t0_0.succ ∗ staged c cc0_stg0_0 (aIn m c) ∗ staged c cc0_stg1_0 (bIn m c)
    ∗ staged c cc0_stg2_0 (result (part m)))

theorem before_a (c : Dev nD) (d) : (dats m ρ 0 c).before (0 : Fin 3) t0_0 d = aIn m c := by
  unfold Dat.before; rw [if_pos (fetch0_0 t0_0)]; rfl
theorem before_b (c : Dev nD) (d) : (dats m ρ 0 c).before (1 : Fin 3) t0_0 d = bIn m c := by
  unfold Dat.before; rw [if_pos (fetch0_1 t0_0)]; rfl

theorem body_staged (c : Dev nD) :
    bodyBefore m ρ c ⊢ wp frame (wpE (defs₀ (F := F)) 𝒱₀ (c : Thread nD τ) none) Set.univ (bodyAt c) (fun _ => bodyAfter m ρ c) := by
  unfold bodyBefore before₀ start
  iintro ⟨⟨⟨⟨%K, Hrec, Hat, Htok⟩, Hcr⟩, ⟨%fp, Hp⟩, ⟨%fr, Hr⟩⟩, Ho, ⟨%d0, %g0, %h0, HA⟩, ⟨%d1, %g1, %h1, HB⟩, ⟨%d2, %g2, %h2, HO⟩⟩
  rw [before_a] at h0
  rw [before_b] at h1
  subst h0
  subst h1
  unfold Dat.owesAt Pipeline.owesWithin
  icases Ho with ⟨%W, %hW, Hw⟩
  rw [show (dats m ρ 0 c).owed t0_0.castSucc = owed₀ c from rfl]
  iapply (body_runs (part m) K c (aIn m c) (bIn m c) rfl g2 fp fr (fun _ => bodyAfter m ρ c)) $$ [Hrec Hat Htok Hcr Hw HA HB HO Hp Hr]
  · isplitl [Hrec]; · iexact Hrec
    isplitl [Hat]; · iexact Hat
    isplitl [Htok]; · iexact Htok
    isplitl [Hcr]; · iexact Hcr
    isplitl [Hw]; · unfold owing; iexists W; iexact Hw
    isplitl [HA]; · unfold aPts; iexact HA
    isplitl [HB]; · unfold bPts; iexact HB
    isplitl [HO]; · unfold outAll; iexact HO
    isplitl [Hp] <;> iassumption
  unfold owing aPts bPts outAll
  iintro ⟨Hz, ⟨%W', Hw⟩, HA, HB, HO, Hp, Hr⟩
  unfold bodyAfter after₀ Dat.owesAt Pipeline.owesWithin
  rw [show (dats m ρ 0 c).owed t0_0.succ = 0 from rfl]
  isplitl [Hz Hp Hr]
  · isplitl [Hz]; · iexact Hz
    isplitl [Hp]
    · iexists _; iexact Hp
    · iexists _; iexact Hr
  isplitl [Hw]
  · iexists W'
    isplitr; · ipureintro; exact fun _ _ => Or.inl trivial
    iexact Hw
  isplitl [HA]
  · iexists _; isplitr; · (ipureintro; rfl)
    iexact HA
  isplitl [HB]
  · iexists _; isplitr; · (ipureintro; rfl)
    iexact HB
  iexists _; isplitr; · (ipureintro; rfl)
  iexact HO

set_option maxRecDepth 8000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_stage]
  show bodyBefore m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5) (fun _ => bodyAfter m ρ c)
  rw [body_eq_loops, wp_deviceId]
  exact body_staged m ρ c

/-! ## The launch's conditions -/

theorem osem_facts : Pipeline.OwnSemFacts cfg0.spec osem := by decide

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ kept (part m) c)
      ⊢ |={Set.univ}=> iprop(start m c ∗ emp) := by
  unfold kept start records
  iintro ⟨-, Hlev, Hcr, -, ⟨%K, HI, HR, Hat, Htok⟩⟩
  ihave Hc := (creds (F := F) c) $$ Hcr
  imodintro
  isplitl
  · isplitl [Hlev HI HR Hat Htok]
    · iexists K
      isplitl [Hlev HI HR]
      · isplitl [HI]; · iexact HI
        isplitl [HR] <;> iassumption
      isplitl [Hat] <;> iassumption
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m c from rfl, scopedRest0_eq]
  unfold before₀ partAll slotAll
  iintro ⟨Hs, -, Hp, Hr⟩
  isplitl [Hs]; · iexact Hs
  isplitl [Hp] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scopedRest0_eq]
  unfold after₀ partAll slotAll
  rw [zeros_eq]
  iintro ⟨⟨Hu, Ho⟩, Hp, Hr⟩
  isplitl [Hu]; · iexact Hu
  isplitl [Ho]; · iexact Ho
  isplitl [Hp] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) (by
      rcases t with ⟨_ | _, ht⟩
      · exact above_owedSig c 0 (by decide)
      · exact above_zero 0)

/-! ## The run -/

/-- What device `c`'s array behind window `w` ends up holding. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution on the sixteen devices ends, with each device's arrays as computed and every counter at zero. -/
theorem run_main : θ_run defs (onTc (τ := τ) (main (F := F))) (start₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := dealt (part m)) (G' := kept (part m)) (u₀ := u₀)
    (hu₀ := by
      unfold u₀
      iintro Hu
      ihave H := (ownU_pair _ _) $$ Hu
      icases H with ⟨HP, HX⟩
      imod (fund_all (part m)) $$ HX with HG
      imodintro
      isplitl [HP] <;> iassumption)
    (hglob := glob (part m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were. -/
theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _

end Cert.Fused

end
-- ==== Proof.Value.lean ====
/-
  The values: every entry of the result is silu of the sum, over all devices, of their partial products'
  entries, and that sum is the whole product's entry.
-/
module

public import proofs.«01_k».proof.Proof.Geometry
public import proofs.«01_k».proof.Proof.Gen.ReferenceIdeal.Run
public import Idealize.ShloMosaic.PureOps.Ideal
public import Idealize.ShloMosaic.PureOps.Ideal.Laws
public import Idealize.ShloMosaic.Lib.IdealHost
public import Idealize.ShloMosaic.Lib.MatmulPlain
public import Idealize.ShloMosaic.Lib.StackMember
public import Idealize.ShloMosaic.Lib.Pointwise.Sums
public import Idealize.ShloMosaic.Lib.Layout

@[expose] public section

noncomputable section

namespace Cert.Fused

open Cert.KernelIdeal Cert.KernelIdeal.Gen
open Idealize.ShloMosaic hiding ix1 ix2 ix3
open Idealize.ShloMosaic.ValueIdx (ix2 ix3)
open scoped BigOperators

/-- `z / (1 + exp (-z))`. -/
def silu (z : EReal) : EReal := Ideal.div z (1 + Ideal.exp (-z))

/-! ## The kernel's side -/

theorem same_shape {s : Shape} {α : Type} (v : s.Idx → α) (h : s.ShapeCasts s) : shapeCast s v h = v :=
  funext fun i => congrArg v (Shape.reshapeEquiv_self h i)

/-- An entry of a partial product. -/
theorem pay1_entry (A : FVec Ideal S1024x512 .bf16) (B : FVec Ideal S512x1024 .bf16) (r q : Fin 1024) :
    k0_pay1 (F := Ideal) A B (ix2 r q) = ∑ k : Fin 512, A (ix2 r k) * B (ix2 k q) := by
  unfold k0_pay1
  rw [same_shape, same_shape, same_shape]
  refine (Ideal.matmul_plain_apply none A B (constant S1024x1024 .f32 0x00000000#32) r q).trans ?_
  show Ideal.ofBits .f32 0x00000000#32 + _ = _
  rw [Ideal.ofBits_zero_f32, zero_add]

theorem lift_slot (x : S64x1024.Idx) (e : Fin NP) : (reduces_S15x64x1024_S64x1024).lift x e = slotIx e x :=
  Shape.idx3_ext rfl rfl rfl

/-- An entry of a chunk: silu of the own entry plus the fifteen received. -/
theorem pay2_entry (X : FVec Ideal S64x1024 .bf16) (R : FVec Ideal S15x64x1024 .bf16) (x : S64x1024.Idx) :
    k0_pay2 (F := Ideal) X R x = silu (X x + ∑ e : Fin NP, R (slotIx e x)) := by
  have hs : multiReduction (F := Ideal) .add [0] S64x1024 (extf .f32 R bitsLt_bf16_f32) 0x00000000#32 reduces_S15x64x1024_S64x1024 (.inl rfl) rfl x
      = ∑ e : Fin NP, R (slotIx e x) :=
    (Ideal.multiReduction_add_single (extf .f32 R bitsLt_bf16_f32) _ _ _ _ x).trans (Finset.sum_congr rfl fun e _ => by
      exact congrArg R (lift_slot x e))
  rw [← hs]
  show Ideal.div (X x + _) (Ideal.ofBits .f32 0x3F800000#32 + Ideal.exp (Ideal.ofBits .f32 0x00000000#32 - (X x + _))) = _
  rw [Ideal.ofBits_one_f32, Ideal.ofBits_zero_f32, sub_eq_add_neg, zero_add]
  rfl

/-- An entry of the result: silu of the sum of all devices' entries. -/
theorem result_entry (P : Dev nD → Mat Ideal) (i : S1024x1024.Idx) : result (F := Ideal) P i = silu (∑ d : Dev nD, P d i) := by
  obtain ⟨j, hj⟩ := rowSet_cover i
  have hi : ∃ x, rowIx j x = i := by
    have h0 : (i 0).val < 1024 := (i 0).isLt
    have hj' := mem_rowSet.mp hj
    refine ⟨ix2 ⟨(i 0).val % 64, Nat.mod_lt _ (by decide)⟩ ⟨(i 1).val, (i 1).isLt⟩, ext2 ?_ rfl⟩
    show 64 * j.val + (i 0).val % 64 = (i 0).val
    omega
  obtain ⟨x, rfl⟩ := hi
  rw [result_row]
  unfold chunk
  rw [pay2_entry]
  refine congrArg silu ?_
  rw [← Equiv.sum_comp (devSrc j), Fintype.sum_option]
  rfl

/-! ## The reference's side -/

/-- The reference's result from its two arguments. -/
def refOut (A : FVec Ideal Cert.ReferenceIdeal.S1024x8192 .bf16) (B : FVec Ideal Cert.ReferenceIdeal.S8192x1024 .bf16) :
    FVec Ideal Cert.ReferenceIdeal.S1024x1024 .bf16 :=
  fun i => silu (∑ k : Fin 8192, A (ix2 ⟨(i 0).val, (i 0).isLt⟩ k) * B (ix2 k ⟨(i 1).val, (i 1).isLt⟩))

theorem dot_entry (A : FVec Ideal Cert.ReferenceIdeal.S1024x8192 .bf16) (B : FVec Ideal Cert.ReferenceIdeal.S8192x1024 .bf16) (i : S1024x1024.Idx) :
    Host.dotGeneral (F := Ideal) Cert.ReferenceIdeal.dot_S1024x8192_S8192x1024_S1024x1024_1_0_0_1_n_n none A B i
      = ∑ k : Fin 8192, A (ix2 ⟨(i 0).val, (i 0).isLt⟩ k) * B (ix2 k ⟨(i 1).val, (i 1).isLt⟩) := by
  have hi : i = ix2 ⟨(i 0).val, (i 0).isLt⟩ ⟨(i 1).val, (i 1).isLt⟩ := ext2 rfl rfl
  refine (congrArg _ hi).trans ?_
  exact StackMember.dotGeneral_plain_apply none A B _ _

/-- The reference's silu at an entry. -/
theorem silu_term (Z : FVec Ideal Cert.ReferenceIdeal.S1024x1024 .bf16) (i : Cert.ReferenceIdeal.S1024x1024.Idx) :
    Host.divf Z (addf (broadcastInDim Cert.ReferenceIdeal.S1024x1024 ![] Cert.ReferenceIdeal.Gen.bcast_S_S1024x1024 (constant Cert.ReferenceIdeal.S_ .bf16 0x3F80#16))
      (Host.exp (Host.negf Z))) i = silu (Z i) := by
  show Ideal.div (Z i) (Ideal.ofBits .bf16 0x3F80#16 + Ideal.exp (-(Z i))) = _
  rw [Ideal.ofBits_one_bf16]
  rfl

/-- The term the reference's run ends with is that function. -/
theorem ref_eq (A : FVec Ideal Cert.ReferenceIdeal.S1024x8192 .bf16) (B : FVec Ideal Cert.ReferenceIdeal.S8192x1024 .bf16) :
    Host.divf (truncf .bf16 (Host.dotGeneral (F := Ideal) Cert.ReferenceIdeal.dot_S1024x8192_S8192x1024_S1024x1024_1_0_0_1_n_n none A B) Cert.ReferenceIdeal.Gen.bitsLt_bf16_f32)
        (addf (broadcastInDim Cert.ReferenceIdeal.S1024x1024 ![] Cert.ReferenceIdeal.Gen.bcast_S_S1024x1024 (constant Cert.ReferenceIdeal.S_ .bf16 0x3F80#16))
          (Host.exp (Host.negf (truncf .bf16 (Host.dotGeneral (F := Ideal) Cert.ReferenceIdeal.dot_S1024x8192_S8192x1024_S1024x1024_1_0_0_1_n_n none A B) Cert.ReferenceIdeal.Gen.bitsLt_bf16_f32))))
      = refOut A B := by
  funext i
  refine (silu_term _ i).trans (congrArg silu ?_)
  exact dot_entry A B i

/-! ## The equation -/

/-- The blocks' products add up to the whole product. -/
theorem blocks_sum (A : FVec Ideal Cert.ReferenceIdeal.S1024x8192 .bf16) (B : FVec Ideal Cert.ReferenceIdeal.S8192x1024 .bf16)
    (hA : Layout.Tiles ⟨2, ![1024, 512]⟩ ⟨2, ![1024, 8192]⟩ 1 16) (hB : Layout.Tiles ⟨2, ![512, 1024]⟩ ⟨2, ![8192, 1024]⟩ 0 16) :
    result (F := Ideal) (fun d => k0_pay1 (F := Ideal) (Layout.block ⟨2, ![1024, 512]⟩ ⟨2, ![1024, 8192]⟩ 1 16 d A hA)
        (Layout.block ⟨2, ![512, 1024]⟩ ⟨2, ![8192, 1024]⟩ 0 16 d B hB)) = refOut A B := by
  funext i
  rw [result_entry]
  unfold refOut
  refine congrArg silu ?_
  rw [Fin.sum_univ_tiles 16 512 rfl]
  refine Finset.sum_congr rfl fun d _ => ?_
  have hi : i = ix2 ⟨(i 0).val, (i 0).isLt⟩ ⟨(i 1).val, (i 1).isLt⟩ := ext2 rfl rfl
  refine (congrArg _ hi).trans ((pay1_entry _ _ _ _).trans (Finset.sum_congr rfl fun k _ => ?_))
  rw [Layout.block_apply, Layout.block_apply]
  refine congrArg₂ (· * ·) (congrArg A (ext2 rfl rfl)) (congrArg B (ext2 rfl rfl))

end Cert.Fused

end
-- ==== Proof.Claims.lean ====
/-
  The final arrays read off the run, and each claim.
-/
module

public import proofs.«01_k».proof.Defs
public import proofs.«01_k».proof.Proof.Launch
public import proofs.«01_k».proof.Proof.Value
public import proofs.«01_k».proof.Proof.Gen.Kernel

@[expose] public section

noncomputable section

namespace Cert.Fused

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## The arrays -/

omit [FloatOps F] in
/-- The staged arguments are the whole arrays. -/
theorem aIn_eq (c : Dev nD) : aIn m c = m ((c : Thread nD τ).loc main_arg0) :=
  Memref.read_access_unit_zero (Elt F) main_arg0 (funext fun a => by fin_cases a <;> decide) (fun a => by fin_cases a <;> decide) _
omit [FloatOps F] in
theorem bIn_eq (c : Dev nD) : bIn m c = m ((c : Thread nD τ).loc main_arg1) :=
  Memref.read_access_unit_zero (Elt F) main_arg1 (funext fun a => by fin_cases a <;> decide) (fun a => by fin_cases a <;> decide) _

/-- The result array, the same on every device. -/
theorem final_out (c : Dev nD) : finalA m ρ c (2 : Fin 3) = result (part m) := by
  have h : (win0_2.blk (0 : Fin 1)).view.read (Elt F) (finalA m ρ c (2 : Fin 3)) = result (part m) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

/-! ## The claims -/

/-- The run leaves the arguments unchanged and every counter at zero, whatever a float is. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (final_a m ρ c), (h.1 c (1 : Fin 3)).trans (final_b m ρ c)⟩, h.2⟩)
    (run_main m ρ)

theorem frame_ideal : Cert.quiescent_KernelIdeal := fun m ρ _ => quiet (F := Ideal) m ρ

/-- The kernel and its ideal have the same text: their bodies are the same. -/
theorem bodies_eq : (Cert.Kernel.defs₀ (F := F) : Defs nD τ sig (Elt F) Λ₀) = defs₀ := by
  unfold Cert.Kernel.defs₀ defs₀
  refine congrArg Defs.onTc (funext fun p => funext fun a => ?_)
  match p, a with
  | 0, (t, s) => exact rfl

theorem defs_eq : (Cert.Kernel.defs (F := F) : Defs nD τ sig (Elt F) (Pipeline.Sig Λ₀ (Fin 1) fun p => (pcfgs (F := F) p).Adm)) = defs :=
  congrArg (Pipeline.defs (pcfgs (F := F))) bodies_eq

/-- The run read at the bits is the kernel's. -/
theorem frame_kernel : Cert.quiescent_Kernel := fun m ρ _ => by
  have h := quiet (F := Bits) m ρ
  rw [← defs_eq] at h
  exact h

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem values : Cert.algebraic_KernelIdeal_ReferenceIdeal := by
  intro m ρ m' ρ' _ hargs
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun _ h c => ⟨(h.1 c (2 : Fin 3)).trans ((final_out m ρ c).trans ?_),
      (h.1 c (0 : Fin 3)).trans (final_a m ρ c), (h.1 c (1 : Fin 3)).trans (final_b m ρ c)⟩) (run_main (F := Ideal) m ρ)
    rw [← blocks_sum _ _ (by decide) (by decide)]
    refine congrArg (result (F := Ideal)) (funext fun d => ?_)
    unfold part
    rw [aIn_eq, bIn_eq, (hargs d).1, (hargs d).2]
  · exact (θ_run Cert.ReferenceIdeal.defs _ _).mono (fun _ h => ⟨(h 0).1.trans (ref_eq _ _), (h 0).2⟩)
      (Cert.ReferenceIdeal.Value.run (F := Ideal) m' ρ')

end Cert.Fused

end
-- ==== Proof.lean ====
/-
  Every claim about the sixteen-device matrix product with reduce-scatter, silu and all-gather.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts,
    Cert.Fused.frame_kernel, Cert.Fused.frame_ideal, Cert.Fused.frame_ref, trivial, Cert.Fused.values⟩

end Cert.Proof

end
